-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_v4_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x1536 : Shape := ⟨3, ![3, 512, 1536]⟩
abbrev S8960x1536 : Shape := ⟨2, ![8960, 1536]⟩
abbrev S8960 : Shape := ⟨1, ![8960]⟩
abbrev S64x1536 : Shape := ⟨2, ![64, 1536]⟩
abbrev S8960x64 : Shape := ⟨2, ![8960, 64]⟩
abbrev S3x512x8960 : Shape := ⟨3, ![3, 512, 8960]⟩
abbrev S3x512 : Shape := ⟨2, ![3, 512]⟩
abbrev S1536x1536 : Shape := ⟨2, ![1536, 1536]⟩
abbrev S8960x1 : Shape := ⟨2, ![8960, 1]⟩
abbrev S1x8960 : Shape := ⟨2, ![1, 8960]⟩
abbrev S1536x8960 : Shape := ⟨2, ![1536, 8960]⟩
abbrev S1536x1 : Shape := ⟨2, ![1536, 1]⟩
abbrev S1536x64 : Shape := ⟨2, ![1536, 64]⟩
abbrev S1280x1536 : Shape := ⟨2, ![1280, 1536]⟩
abbrev S1280x1 : Shape := ⟨2, ![1280, 1]⟩
abbrev S1280x64 : Shape := ⟨2, ![1280, 64]⟩
abbrev S1x1280 : Shape := ⟨2, ![1, 1280]⟩
abbrev S1536x1280 : Shape := ⟨2, ![1536, 1280]⟩
abbrev S1280x128 : Shape := ⟨2, ![1280, 128]⟩
abbrev S128x1280 : Shape := ⟨2, ![128, 1280]⟩
abbrev S1280 : Shape := ⟨1, ![1280]⟩

abbrev nBuf : Space → Nat
  | .hbm => 21
  | .vmem => 25
  | .smem => 0
  | _ => 0

abbrev bufTy : (tb : Table) → Fin (tcTables nBuf tb) → BufTy
  | .hbm, ⟨0, _⟩ => ⟨S3x512x1536, .bf16⟩
  | .hbm, ⟨1, _⟩ => ⟨S8960x1536, .fp8e4m3⟩
  | .hbm, ⟨2, _⟩ => ⟨S8960, .f32⟩
  | .hbm, ⟨3, _⟩ => ⟨S64x1536, .bf16⟩
  | .hbm, ⟨4, _⟩ => ⟨S8960x64, .bf16⟩
  | .hbm, ⟨5, _⟩ => ⟨S8960, .f32⟩
  | .hbm, ⟨6, _⟩ => ⟨S3x512x8960, .fp8e5m2⟩
  | .hbm, ⟨7, _⟩ => ⟨S3x512, .f32⟩
  | .hbm, ⟨8, _⟩ => ⟨S3x512x8960, .bf16⟩
  | .hbm, ⟨9, _⟩ => ⟨S1536x1536, .bf16⟩
  | .hbm, ⟨10, _⟩ => ⟨S8960x1, .f32⟩
  | .hbm, ⟨11, _⟩ => ⟨S1x8960, .f32⟩
  | .hbm, ⟨12, _⟩ => ⟨S1536x8960, .fp8e5m2⟩
  | .hbm, ⟨13, _⟩ => ⟨S1536x1, .f32⟩
  | .hbm, ⟨14, _⟩ => ⟨S1536x8960, .bf16⟩
  | .hbm, ⟨15, _⟩ => ⟨S1536x1536, .bf16⟩
  | .hbm, ⟨16, _⟩ => ⟨S64x1536, .bf16⟩
  | .hbm, ⟨17, _⟩ => ⟨S8960x64, .bf16⟩
  | .hbm, ⟨18, _⟩ => ⟨S1x8960, .f32⟩
  | .hbm, ⟨19, _⟩ => ⟨S1536x64, .bf16⟩
  | .hbm, ⟨20, _⟩ => ⟨S1536x64, .bf16⟩
  | .local _ .vmem, ⟨0, _⟩ => ⟨S1536x1536, .bf16⟩
  | .local _ .vmem, ⟨1, _⟩ => ⟨S1280x1536, .fp8e4m3⟩
  | .local _ .vmem, ⟨2, _⟩ => ⟨S1280x1536, .fp8e4m3⟩
  | .local _ .vmem, ⟨3, _⟩ => ⟨S1280x1, .f32⟩
  | .local _ .vmem, ⟨4, _⟩ => ⟨S1280x1, .f32⟩
  | .local _ .vmem, ⟨5, _⟩ => ⟨S64x1536, .bf16⟩
  | .local _ .vmem, ⟨6, _⟩ => ⟨S1280x64, .bf16⟩
  | .local _ .vmem, ⟨7, _⟩ => ⟨S1280x64, .bf16⟩
  | .local _ .vmem, ⟨8, _⟩ => ⟨S1x1280, .f32⟩
  | .local _ .vmem, ⟨9, _⟩ => ⟨S1x1280, .f32⟩
  | .local _ .vmem, ⟨10, _⟩ => ⟨S1536x1280, .fp8e5m2⟩
  | .local _ .vmem, ⟨11, _⟩ => ⟨S1536x1280, .fp8e5m2⟩
  | .local _ .vmem, ⟨12, _⟩ => ⟨S1536x1, .f32⟩
  | .local _ .vmem, ⟨13, _⟩ => ⟨S1536x1280, .bf16⟩
  | .local _ .vmem, ⟨14, _⟩ => ⟨S1536x1280, .bf16⟩
  | .local _ .vmem, ⟨15, _⟩ => ⟨S1536x1536, .bf16⟩
  | .local _ .vmem, ⟨16, _⟩ => ⟨S64x1536, .bf16⟩
  | .local _ .vmem, ⟨17, _⟩ => ⟨S1280x64, .bf16⟩
  | .local _ .vmem, ⟨18, _⟩ => ⟨S1280x64, .bf16⟩
  | .local _ .vmem, ⟨19, _⟩ => ⟨S1x1280, .f32⟩
  | .local _ .vmem, ⟨20, _⟩ => ⟨S1x1280, .f32⟩
  | .local _ .vmem, ⟨21, _⟩ => ⟨S1536x64, .bf16⟩
  | .local _ .vmem, ⟨22, _⟩ => ⟨S1536x64, .bf16⟩
  | .local _ .vmem, ⟨23, _⟩ => ⟨S1536x1536, .f32⟩
  | .local _ .vmem, ⟨24, _⟩ => ⟨S1536x64, .f32⟩
  | _, _ => ⟨S3x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v88 : BitVec 1 := Scalar.cmpi .eq arg0 c6_i32
  let v89 : BitVec 32 := Scalar.extui v88
  let c0_i32_39 : BitVec 32 := 0#32
  let v90 : BitVec 1 := Scalar.cmpi .ne v89 c0_i32_39
  v90

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x1536 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x1280 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1536x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1536x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1536x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1280x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1280 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1536x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1536x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S3x512x1536 : Shape := ⟨3, ![3, 512, 1536]⟩
abbrev S8960x1536 : Shape := ⟨2, ![8960, 1536]⟩
abbrev S8960 : Shape := ⟨1, ![8960]⟩
abbrev S64x1536 : Shape := ⟨2, ![64, 1536]⟩
abbrev S8960x64 : Shape := ⟨2, ![8960, 64]⟩
abbrev S3x512x8960 : Shape := ⟨3, ![3, 512, 8960]⟩
abbrev S3x512 : Shape := ⟨2, ![3, 512]⟩
abbrev S1536x1536 : Shape := ⟨2, ![1536, 1536]⟩
abbrev S1536x8960 : Shape := ⟨2, ![1536, 8960]⟩
abbrev S1536 : Shape := ⟨1, ![1536]⟩
abbrev S1x8960 : Shape := ⟨2, ![1, 8960]⟩
abbrev S1536x64 : Shape := ⟨2, ![1536, 64]⟩
abbrev S8960x1 : Shape := ⟨2, ![8960, 1]⟩
abbrev S1536x1 : Shape := ⟨2, ![1536, 1]⟩

abbrev nBuf : Space → Nat
  | .hbm => 19
  | .vmem => 15
  | .smem => 0
  | _ => 0

abbrev bufTy : (tb : Table) → Fin (tcTables nBuf tb) → BufTy
  | .hbm, ⟨0, _⟩ => ⟨S3x512x1536, .bf16⟩
  | .hbm, ⟨1, _⟩ => ⟨S8960x1536, .fp8e4m3⟩
  | .hbm, ⟨2, _⟩ => ⟨S8960, .f32⟩
  | .hbm, ⟨3, _⟩ => ⟨S64x1536, .bf16⟩
  | .hbm, ⟨4, _⟩ => ⟨S8960x64, .bf16⟩
  | .hbm, ⟨5, _⟩ => ⟨S8960, .f32⟩
  | .hbm, ⟨6, _⟩ => ⟨S3x512x8960, .fp8e5m2⟩
  | .hbm, ⟨7, _⟩ => ⟨S3x512, .f32⟩
  | .hbm, ⟨8, _⟩ => ⟨S3x512x8960, .bf16⟩
  | .hbm, ⟨9, _⟩ => ⟨S1536x1536, .bf16⟩
  | .hbm, ⟨10, _⟩ => ⟨S1536x8960, .fp8e5m2⟩
  | .hbm, ⟨11, _⟩ => ⟨S1536, .f32⟩
  | .hbm, ⟨12, _⟩ => ⟨S1536x8960, .bf16⟩
  | .hbm, ⟨13, _⟩ => ⟨S1536x1536, .bf16⟩
  | .hbm, ⟨14, _⟩ => ⟨S64x1536, .bf16⟩
  | .hbm, ⟨15, _⟩ => ⟨S8960x64, .bf16⟩
  | .hbm, ⟨16, _⟩ => ⟨S1x8960, .f32⟩
  | .hbm, ⟨17, _⟩ => ⟨S1536x64, .bf16⟩
  | .hbm, ⟨18, _⟩ => ⟨S1536x64, .bf16⟩
  | .local _ .vmem, ⟨0, _⟩ => ⟨S1536x1536, .bf16⟩
  | .local _ .vmem, ⟨1, _⟩ => ⟨S8960x1536, .fp8e4m3⟩
  | .local _ .vmem, ⟨2, _⟩ => ⟨S8960, .f32⟩
  | .local _ .vmem, ⟨3, _⟩ => ⟨S64x1536, .bf16⟩
  | .local _ .vmem, ⟨4, _⟩ => ⟨S8960x64, .bf16⟩
  | .local _ .vmem, ⟨5, _⟩ => ⟨S8960, .f32⟩
  | .local _ .vmem, ⟨6, _⟩ => ⟨S1536x8960, .fp8e5m2⟩
  | .local _ .vmem, ⟨7, _⟩ => ⟨S1536, .f32⟩
  | .local _ .vmem, ⟨8, _⟩ => ⟨S1536x8960, .bf16⟩
  | .local _ .vmem, ⟨9, _⟩ => ⟨S1536x1536, .bf16⟩
  | .local _ .vmem, ⟨10, _⟩ => ⟨S64x1536, .bf16⟩
  | .local _ .vmem, ⟨11, _⟩ => ⟨S8960x64, .bf16⟩
  | .local _ .vmem, ⟨12, _⟩ => ⟨S1x8960, .f32⟩
  | .local _ .vmem, ⟨13, _⟩ => ⟨S1536x64, .bf16⟩
  | .local _ .vmem, ⟨14, _⟩ => ⟨S1536x64, .bf16⟩
  | _, _ => ⟨S3x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8960x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8960x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x8960 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x8960 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8960x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8960 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1536x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Step.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.Value

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What one step of the grid computes, as functions of the blocks it reads -/

section Step

variable (x : Vec F S1536x1536 .bf16) (w : Vec F S1280x1536 .fp8e4m3) (ws : Vec F S1280x1 .f32) (a : Vec F S64x1536 .bf16) (b : Vec F S1280x64 .bf16) (mg : Vec F S1x1280 .f32) (dy : Vec F S1536x1280 .fp8e5m2) (dys : Vec F S1536x1 .f32) (y : Vec F S1536x1280 .bf16)

/-- The zero the body compares the norm with. -/
def zeroF : F .f32 := Scalar.ofBits .f32 0x00000000#32

/-- The factor `g` of one step: the incoming gradient times the column's scale `magnitude / norm`. -/
def gBlk : Vec F S1536x1280 .bf16 := k0_pay14 (k0_pay10 b w ws a) (k0_pay11 mg) zeroF dy dys

/-- The accumulator of the gradient of `x` after one step that found `acc` in it. -/
def accStep (acc : Vec F S1536x1536 .f32) : Vec F S1536x1536 .f32 :=
  k0_pay15 (k0_pay9 b w ws a) (k0_pay10 b w ws a) (k0_pay11 mg) zeroF dy dys acc

/-- The accumulator of `g · lora_b` after one step that found `gb` in it. -/
def gbStep (gb : Vec F S1536x64 .f32) : Vec F S1536x64 .f32 :=
  k0_pay1 (k0_pay16 b (k0_pay10 b w ws a) (k0_pay11 mg) zeroF dy dys gb)

/-- The block of the gradient of the magnitude. -/
def dmBlk : Vec F S1x1280 .f32 := k0_pay13 (k0_pay11 mg) dy dys y

/-- The block of the gradient of `lora_b`, from the product `xa = x · lora_aᵀ`. -/
def dbBlk (xa : Vec F S1536x64 .bf16) : Vec F S1280x64 .bf16 := k0_pay2 (gBlk w ws a b mg dy dys) xa

/-- The product `x · lora_aᵀ`, computed by the first step. -/
def xaBlk : Vec F S1536x64 .bf16 := k0_pay6 x a

end Step

/-- Nine input blocks held by core `c`. -/
def ins (c : Dev nD) (arg1 : Memref sig .tc .vmem S1536x1536 .bf16) (arg2 : Memref sig .tc .vmem S1280x1536 .fp8e4m3) (arg3 : Memref sig .tc .vmem S1280x1 .f32) (arg4 : Memref sig .tc .vmem S64x1536 .bf16) (arg5 : Memref sig .tc .vmem S1280x64 .bf16) (arg6 : Memref sig .tc .vmem S1x1280 .f32) (arg7 : Memref sig .tc .vmem S1536x1280 .fp8e5m2) (arg8 : Memref sig .tc .vmem S1536x1 .f32) (arg9 : Memref sig .tc .vmem S1536x1280 .bf16)
    (x : Vec F S1536x1536 .bf16) (w : Vec F S1280x1536 .fp8e4m3) (ws : Vec F S1280x1 .f32) (a : Vec F S64x1536 .bf16) (b : Vec F S1280x64 .bf16) (mg : Vec F S1x1280 .f32) (dy : Vec F S1536x1280 .fp8e5m2) (dys : Vec F S1536x1 .f32) (y : Vec F S1536x1280 .bf16) : sProp 𝕄 :=
  iprop(owns (c : Thread nD τ) arg1 fullShare x
    ∗ owns (c : Thread nD τ) arg2 fullShare w
    ∗ owns (c : Thread nD τ) arg3 fullShare ws
    ∗ owns (c : Thread nD τ) arg4 fullShare a
    ∗ owns (c : Thread nD τ) arg5 fullShare b
    ∗ owns (c : Thread nD τ) arg6 fullShare mg
    ∗ owns (c : Thread nD τ) arg7 fullShare dy
    ∗ owns (c : Thread nD τ) arg8 fullShare dys
    ∗ owns (c : Thread nD τ) arg9 fullShare y)

theorem zero2 : (![0, 0] : Fin 2 → ℕ) = fun _ => 0 := by funext i; fin_cases i <;> rfl

/-- A buffer whose last store was through the whole shape reads as that store's payload. -/
theorem read_store {s : Shape} {e : EltTy} (v : View sig .tc .vmem s e) (f : v.ty.Contents (Elt F))
    {off : Fin s.rank → ℕ} (h0 : off = fun _ => 0) (inb : ∀ a, off a + s.size a ≤ s.size a) (p q : Vec F s e)
    (L : List (View.Piece (Elt F) s e)) (h : p = q) :
    v.read (Elt F) (v.writes (Elt F) f ((⟨Rect.unit off s.size inb, p⟩ : View.Piece (Elt F) s e) :: L)) = q := by
  rw [View.read_writes_eq_canon _ _ _ (fun y => ⟨_, List.mem_cons_self .., View.mem_set_unit_zero h0 inb y⟩), View.canon_cons_unit_zero h0]
  exact h

/-- A load of a whole buffer reads what the buffer holds. -/
theorem readAt_whole {s : Shape} {e : EltTy} {arg : Memref sig .tc .vmem s e} (h : arg.IsWhole)
    {off : Fin s.rank → ℕ} (h0 : off = fun _ => 0) (inb : ∀ a, off a + s.size a ≤ s.size a) (X : Vec F s e) :
    arg.view.readAt (Elt F) (Rect.unit off s.size inb).toLoadRect (h.unread X) = X := by
  rw [View.readAt_eq_ld, h.read_unread, View.ld_unit_zero h0]

end Cert.KernelIdeal.Own

end
-- ==== Proof.BodyMid.lean ====
module

public import proofs.«01_k».proof.Proof.Step

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at a point that is neither the first nor the last. -/
theorem body_mid (c : Dev nD) (i : grid0.Coords)
    (arg1 : Memref sig .tc .vmem S1536x1536 .bf16) (harg1 : arg1.IsWhole)
    (arg2 : Memref sig .tc .vmem S1280x1536 .fp8e4m3) (harg2 : arg2.IsWhole)
    (arg3 : Memref sig .tc .vmem S1280x1 .f32) (harg3 : arg3.IsWhole)
    (arg4 : Memref sig .tc .vmem S64x1536 .bf16) (harg4 : arg4.IsWhole)
    (arg5 : Memref sig .tc .vmem S1280x64 .bf16) (harg5 : arg5.IsWhole)
    (arg6 : Memref sig .tc .vmem S1x1280 .f32) (harg6 : arg6.IsWhole)
    (arg7 : Memref sig .tc .vmem S1536x1280 .fp8e5m2) (harg7 : arg7.IsWhole)
    (arg8 : Memref sig .tc .vmem S1536x1 .f32) (harg8 : arg8.IsWhole)
    (arg9 : Memref sig .tc .vmem S1536x1280 .bf16) (harg9 : arg9.IsWhole)
    (arg10 : Memref sig .tc .vmem S1536x1536 .bf16) (harg10 : arg10.IsWhole)
    (arg11 : Memref sig .tc .vmem S64x1536 .bf16) (harg11 : arg11.IsWhole)
    (arg12 : Memref sig .tc .vmem S1280x64 .bf16) (harg12 : arg12.IsWhole)
    (arg13 : Memref sig .tc .vmem S1x1280 .f32) (harg13 : arg13.IsWhole)
    (arg14 : Memref sig .tc .vmem S1536x64 .bf16) (harg14 : arg14.IsWhole)
    (arg15 : Memref sig .tc .vmem S1536x64 .bf16) (harg15 : arg15.IsWhole)
    (arg16 : Memref sig .tc .vmem S1536x1536 .f32) (harg16 : arg16.IsWhole)
    (arg17 : Memref sig .tc .vmem S1536x64 .f32) (harg17 : arg17.IsWhole)
    (hc0 : ¬k0_cond1 i = 1#1) (hc1 : ¬k0_cond2 i = 1#1)
    (x : Vec F S1536x1536 .bf16) (w : Vec F S1280x1536 .fp8e4m3) (ws : Vec F S1280x1 .f32) (a : Vec F S64x1536 .bf16) (b : Vec F S1280x64 .bf16) (mg : Vec F S1x1280 .f32) (dy : Vec F S1536x1280 .fp8e5m2) (dys : Vec F S1536x1 .f32) (y : Vec F S1536x1280 .bf16)
    (xa : Vec F S1536x64 .bf16) (acc : Vec F S1536x1536 .f32) (gb : Vec F S1536x64 .f32) (o9 : Vec F S1536x1536 .bf16) (o10 : Vec F S64x1536 .bf16) (o14 : Vec F S1536x64 .bf16) (E : Set ℕ) (K : PUnit → sProp 𝕄) :
    iprop(ins c arg1 arg2 arg3 arg4 arg5 arg6 arg7 arg8 arg9 x w ws a b mg dy dys y
        ∗ owns (c : Thread nD τ) arg10 fullShare o9
        ∗ owns (c : Thread nD τ) arg11 fullShare o10
        ∗ (∃ d, owns (c : Thread nD τ) arg12 fullShare d)
        ∗ (∃ d, owns (c : Thread nD τ) arg13 fullShare d)
        ∗ owns (c : Thread nD τ) arg14 fullShare xa
        ∗ owns (c : Thread nD τ) arg15 fullShare o14
        ∗ owns (c : Thread nD τ) arg16 fullShare acc
        ∗ owns (c : Thread nD τ) arg17 fullShare gb
        ∗ (iprop(ins c arg1 arg2 arg3 arg4 arg5 arg6 arg7 arg8 arg9 x w ws a b mg dy dys y
        ∗ owns (c : Thread nD τ) arg10 fullShare o9
        ∗ owns (c : Thread nD τ) arg11 fullShare o10
        ∗ owns (c : Thread nD τ) arg12 fullShare (dbBlk w ws a b mg dy dys xa)
        ∗ owns (c : Thread nD τ) arg13 fullShare (dmBlk mg dy dys y)
        ∗ owns (c : Thread nD τ) arg14 fullShare xa
        ∗ owns (c : Thread nD τ) arg15 fullShare o14
        ∗ owns (c : Thread nD τ) arg16 fullShare (accStep w ws a b mg dy dys acc)
        ∗ owns (c : Thread nD τ) arg17 fullShare (gbStep w ws a b mg dy dys gb)) -∗ K ⟨⟩))
      ⊢ wp frame (wpE (defs₀ (F := F)) Variants.none c none) E
          (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_dora_bwd_eq_skeleton]; unfold cc0_dora_bwd_skel
  simp only [k0_part1_eq_skeleton, k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg10.eq_unread hf9; obtain rfl := harg11.eq_unread hf10; obtain rfl := harg14.eq_unread hf13; obtain rfl := harg15.eq_unread hf14; obtain rfl := harg16.eq_unread hfs0; obtain rfl := harg17.eq_unread hfs1
  sl_exec (disch := first | sl_exact hc0 | sl_exact hc1)
  sl_step
  iapply Hk
  isplitl [H0 H1 H2 H3 H4 H5 H6 H7 H8]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  isplitl [H12]
  · iexists _; isplitr; swap; · iexact H12
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  isplitl [H13]
  · iexists _; isplitr; · ipureintro; exact harg14.read_unread _
    iexact H13
  isplitl [H14]
  · iexists _; isplitr; · ipureintro; exact harg15.read_unread _
    iexact H14
  isplitl [HS0]
  · iexists _; isplitr; swap; · iexact HS0
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  iexists _; isplitr; swap; · iexact HS1
  ipureintro; refine read_store _ _ zero2 _ _ _ _ ?_
  sl_unfold_words
  simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
  rfl

end Cert.KernelIdeal.Own

end
-- ==== Proof.BodyFirst.lean ====
module

public import proofs.«01_k».proof.Proof.BodyMid

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at the first point: it computes `x · lora_aᵀ` and starts both accumulators at zero. -/
theorem body_first (c : Dev nD) (i : grid0.Coords)
    (arg1 : Memref sig .tc .vmem S1536x1536 .bf16) (harg1 : arg1.IsWhole)
    (arg2 : Memref sig .tc .vmem S1280x1536 .fp8e4m3) (harg2 : arg2.IsWhole)
    (arg3 : Memref sig .tc .vmem S1280x1 .f32) (harg3 : arg3.IsWhole)
    (arg4 : Memref sig .tc .vmem S64x1536 .bf16) (harg4 : arg4.IsWhole)
    (arg5 : Memref sig .tc .vmem S1280x64 .bf16) (harg5 : arg5.IsWhole)
    (arg6 : Memref sig .tc .vmem S1x1280 .f32) (harg6 : arg6.IsWhole)
    (arg7 : Memref sig .tc .vmem S1536x1280 .fp8e5m2) (harg7 : arg7.IsWhole)
    (arg8 : Memref sig .tc .vmem S1536x1 .f32) (harg8 : arg8.IsWhole)
    (arg9 : Memref sig .tc .vmem S1536x1280 .bf16) (harg9 : arg9.IsWhole)
    (arg10 : Memref sig .tc .vmem S1536x1536 .bf16) (harg10 : arg10.IsWhole)
    (arg11 : Memref sig .tc .vmem S64x1536 .bf16) (harg11 : arg11.IsWhole)
    (arg12 : Memref sig .tc .vmem S1280x64 .bf16) (harg12 : arg12.IsWhole)
    (arg13 : Memref sig .tc .vmem S1x1280 .f32) (harg13 : arg13.IsWhole)
    (arg14 : Memref sig .tc .vmem S1536x64 .bf16) (harg14 : arg14.IsWhole)
    (arg15 : Memref sig .tc .vmem S1536x64 .bf16) (harg15 : arg15.IsWhole)
    (arg16 : Memref sig .tc .vmem S1536x1536 .f32) (harg16 : arg16.IsWhole)
    (arg17 : Memref sig .tc .vmem S1536x64 .f32) (harg17 : arg17.IsWhole)
    (hc0 : k0_cond1 i = 1#1) (hc1 : ¬k0_cond2 i = 1#1)
    (x : Vec F S1536x1536 .bf16) (w : Vec F S1280x1536 .fp8e4m3) (ws : Vec F S1280x1 .f32) (a : Vec F S64x1536 .bf16) (b : Vec F S1280x64 .bf16) (mg : Vec F S1x1280 .f32) (dy : Vec F S1536x1280 .fp8e5m2) (dys : Vec F S1536x1 .f32) (y : Vec F S1536x1280 .bf16)
    (o9 : Vec F S1536x1536 .bf16) (o10 : Vec F S64x1536 .bf16) (o14 : Vec F S1536x64 .bf16) (E : Set ℕ) (K : PUnit → sProp 𝕄) :
    iprop(ins c arg1 arg2 arg3 arg4 arg5 arg6 arg7 arg8 arg9 x w ws a b mg dy dys y
        ∗ owns (c : Thread nD τ) arg10 fullShare o9
        ∗ owns (c : Thread nD τ) arg11 fullShare o10
        ∗ (∃ d, owns (c : Thread nD τ) arg12 fullShare d)
        ∗ (∃ d, owns (c : Thread nD τ) arg13 fullShare d)
        ∗ (∃ d, owns (c : Thread nD τ) arg14 fullShare d)
        ∗ owns (c : Thread nD τ) arg15 fullShare o14
        ∗ (∃ d, owns (c : Thread nD τ) arg16 fullShare d)
        ∗ (∃ d, owns (c : Thread nD τ) arg17 fullShare d)
        ∗ (iprop(ins c arg1 arg2 arg3 arg4 arg5 arg6 arg7 arg8 arg9 x w ws a b mg dy dys y
        ∗ owns (c : Thread nD τ) arg10 fullShare o9
        ∗ owns (c : Thread nD τ) arg11 fullShare o10
        ∗ owns (c : Thread nD τ) arg12 fullShare (dbBlk w ws a b mg dy dys (xaBlk x a))
        ∗ owns (c : Thread nD τ) arg13 fullShare (dmBlk mg dy dys y)
        ∗ owns (c : Thread nD τ) arg14 fullShare (xaBlk x a)
        ∗ owns (c : Thread nD τ) arg15 fullShare o14
        ∗ owns (c : Thread nD τ) arg16 fullShare (accStep w ws a b mg dy dys k0_pay7)
        ∗ owns (c : Thread nD τ) arg17 fullShare (gbStep w ws a b mg dy dys k0_pay8)) -∗ K ⟨⟩))
      ⊢ wp frame (wpE (defs₀ (F := F)) Variants.none c none) E
          (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_dora_bwd_eq_skeleton]; unfold cc0_dora_bwd_skel
  simp only [k0_part1_eq_skeleton, k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg10.eq_unread hf9; obtain rfl := harg11.eq_unread hf10; obtain rfl := harg15.eq_unread hf14
  sl_exec (disch := first | sl_exact hc0 | sl_exact hc1)
  sl_step
  iapply Hk
  isplitl [H0 H1 H2 H3 H4 H5 H6 H7 H8]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  isplitl [H12]
  · iexists _; isplitr; swap; · iexact H12
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  isplitl [H13]
  · iexists _; isplitr; swap; · iexact H13
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  isplitl [H14]
  · iexists _; isplitr; · ipureintro; exact harg15.read_unread _
    iexact H14
  isplitl [HS0]
  · iexists _; isplitr; swap; · iexact HS0
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  iexists _; isplitr; swap; · iexact HS1
  ipureintro; refine read_store _ _ zero2 _ _ _ _ ?_
  sl_unfold_words
  simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
  rfl

end Cert.KernelIdeal.Own

end
-- ==== Proof.BodyLast.lean ====
module

public import proofs.«01_k».proof.Proof.BodyFirst

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at the last point: it also writes out the gradient of `x`, `g · lora_b` and the gradient of `lora_a`. -/
theorem body_last (c : Dev nD) (i : grid0.Coords)
    (arg1 : Memref sig .tc .vmem S1536x1536 .bf16) (harg1 : arg1.IsWhole)
    (arg2 : Memref sig .tc .vmem S1280x1536 .fp8e4m3) (harg2 : arg2.IsWhole)
    (arg3 : Memref sig .tc .vmem S1280x1 .f32) (harg3 : arg3.IsWhole)
    (arg4 : Memref sig .tc .vmem S64x1536 .bf16) (harg4 : arg4.IsWhole)
    (arg5 : Memref sig .tc .vmem S1280x64 .bf16) (harg5 : arg5.IsWhole)
    (arg6 : Memref sig .tc .vmem S1x1280 .f32) (harg6 : arg6.IsWhole)
    (arg7 : Memref sig .tc .vmem S1536x1280 .fp8e5m2) (harg7 : arg7.IsWhole)
    (arg8 : Memref sig .tc .vmem S1536x1 .f32) (harg8 : arg8.IsWhole)
    (arg9 : Memref sig .tc .vmem S1536x1280 .bf16) (harg9 : arg9.IsWhole)
    (arg10 : Memref sig .tc .vmem S1536x1536 .bf16) (harg10 : arg10.IsWhole)
    (arg11 : Memref sig .tc .vmem S64x1536 .bf16) (harg11 : arg11.IsWhole)
    (arg12 : Memref sig .tc .vmem S1280x64 .bf16) (harg12 : arg12.IsWhole)
    (arg13 : Memref sig .tc .vmem S1x1280 .f32) (harg13 : arg13.IsWhole)
    (arg14 : Memref sig .tc .vmem S1536x64 .bf16) (harg14 : arg14.IsWhole)
    (arg15 : Memref sig .tc .vmem S1536x64 .bf16) (harg15 : arg15.IsWhole)
    (arg16 : Memref sig .tc .vmem S1536x1536 .f32) (harg16 : arg16.IsWhole)
    (arg17 : Memref sig .tc .vmem S1536x64 .f32) (harg17 : arg17.IsWhole)
    (hc0 : ¬k0_cond1 i = 1#1) (hc1 : k0_cond2 i = 1#1)
    (x : Vec F S1536x1536 .bf16) (w : Vec F S1280x1536 .fp8e4m3) (ws : Vec F S1280x1 .f32) (a : Vec F S64x1536 .bf16) (b : Vec F S1280x64 .bf16) (mg : Vec F S1x1280 .f32) (dy : Vec F S1536x1280 .fp8e5m2) (dys : Vec F S1536x1 .f32) (y : Vec F S1536x1280 .bf16)
    (xa : Vec F S1536x64 .bf16) (acc : Vec F S1536x1536 .f32) (gb : Vec F S1536x64 .f32) (E : Set ℕ) (K : PUnit → sProp 𝕄) :
    iprop(ins c arg1 arg2 arg3 arg4 arg5 arg6 arg7 arg8 arg9 x w ws a b mg dy dys y
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ owns (c : Thread nD τ) arg14 fullShare xa
        ∗ (∃ d, owns (c : Thread nD τ) arg15 fullShare d)
        ∗ owns (c : Thread nD τ) arg16 fullShare acc
        ∗ owns (c : Thread nD τ) arg17 fullShare gb
        ∗ (iprop(ins c arg1 arg2 arg3 arg4 arg5 arg6 arg7 arg8 arg9 x w ws a b mg dy dys y
        ∗ owns (c : Thread nD τ) arg10 fullShare (k0_pay3 (accStep w ws a b mg dy dys acc))
        ∗ owns (c : Thread nD τ) arg11 fullShare (k0_pay5 (gbStep w ws a b mg dy dys gb) x)
        ∗ owns (c : Thread nD τ) arg12 fullShare (dbBlk w ws a b mg dy dys xa)
        ∗ owns (c : Thread nD τ) arg13 fullShare (dmBlk mg dy dys y)
        ∗ owns (c : Thread nD τ) arg14 fullShare xa
        ∗ owns (c : Thread nD τ) arg15 fullShare (k0_pay4 (gbStep w ws a b mg dy dys gb))
        ∗ owns (c : Thread nD τ) arg16 fullShare (accStep w ws a b mg dy dys acc)
        ∗ owns (c : Thread nD τ) arg17 fullShare (gbStep w ws a b mg dy dys gb)) -∗ K ⟨⟩))
      ⊢ wp frame (wpE (defs₀ (F := F)) Variants.none c none) E
          (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_dora_bwd_eq_skeleton]; unfold cc0_dora_bwd_skel
  simp only [k0_part1_eq_skeleton, k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%d11, %f11, -, H11⟩, ⟨%d12, %f12, -, H12⟩, ⟨%f13, %hf13, H13⟩, ⟨%d14, %f14, -, H14⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg14.eq_unread hf13; obtain rfl := harg16.eq_unread hfs0; obtain rfl := harg17.eq_unread hfs1
  sl_exec (disch := first | sl_exact hc0 | sl_exact hc1)
  sl_step
  iapply Hk
  isplitl [H0 H1 H2 H3 H4 H5 H6 H7 H8]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; isplitr; · ipureintro; exact harg9.read_unread _
    iexact H8
  isplitl [H9]
  · iexists _; isplitr; swap; · iexact H9
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  isplitl [H10]
  · iexists _; isplitr; swap; · iexact H10
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  isplitl [H11]
  · iexists _; isplitr; swap; · iexact H11
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  isplitl [H12]
  · iexists _; isplitr; swap; · iexact H12
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  isplitl [H13]
  · iexists _; isplitr; · ipureintro; exact harg14.read_unread _
    iexact H13
  isplitl [H14]
  · iexists _; isplitr; swap; · iexact H14
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  isplitl [HS0]
  · iexists _; isplitr; swap; · iexact HS0
    ipureintro; refine read_store _ _ zero2 _ _ _ _ ?_
    sl_unfold_words
    simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
    rfl
  iexists _; isplitr; swap; · iexact HS1
  ipureintro; refine read_store _ _ zero2 _ _ _ _ ?_
  sl_unfold_words
  simp only [readAt_whole harg1 zero2, readAt_whole harg2 zero2, readAt_whole harg3 zero2, readAt_whole harg4 zero2, readAt_whole harg5 zero2, readAt_whole harg6 zero2, readAt_whole harg7 zero2, readAt_whole harg8 zero2, readAt_whole harg9 zero2, readAt_whole harg14 zero2, readAt_whole harg16 zero2, readAt_whole harg17 zero2, View.readCov_unit_zero arg14.view zero2, View.readCov_unit_zero arg16.view zero2, View.readCov_unit_zero arg17.view zero2]
  rfl

end Cert.KernelIdeal.Own

end
-- ==== Proof.Run.lean ====
module

public import proofs.«01_k».proof.Proof.Gen.KernelIdeal.Frame
public import proofs.«01_k».proof.Proof.Gen.KernelIdeal.Points
public import proofs.«01_k».proof.Proof.BodyLast
public import Idealize.ShloMosaic.Lib.Pipeline.TableIdle
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the grid's points stand: the two conditions of the body, and which outputs a point leaves alone -/

/-- The body's first condition holds at the first point only. -/
theorem first_iff : ∀ t : Fin cfg0.N, k0_cond1 (grid0.coords t) = 1#1 ↔ t.val = 0 := by decide +kernel

/-- The body's second condition holds at the last point only. -/
theorem last_iff : ∀ t : Fin cfg0.N, k0_cond2 (grid0.coords t) = 1#1 ↔ t.val = 6 := by decide +kernel

/-- Outputs 9, 10 and 14 are left alone at every point but the last, -/
theorem idle9 : ∀ t : Fin cfg0.N, t.val ≠ 6 → cfg0.idle 9 (grid0.coords t) = true ∧ (cfg0.win 9).flush t = false := by decide +kernel
theorem idle10 : ∀ t : Fin cfg0.N, t.val ≠ 6 → cfg0.idle 10 (grid0.coords t) = true ∧ (cfg0.win 10).flush t = false := by decide +kernel
theorem idle14 : ∀ t : Fin cfg0.N, t.val ≠ 6 → cfg0.idle 14 (grid0.coords t) = true ∧ (cfg0.win 14).flush t = false := by decide +kernel

/-- and stored into at the last. -/
theorem live9 : ∀ t : Fin cfg0.N, t.val = 6 → cfg0.idle 9 (grid0.coords t) = false := by decide +kernel
theorem live10 : ∀ t : Fin cfg0.N, t.val = 6 → cfg0.idle 10 (grid0.coords t) = false := by decide +kernel
theorem live14 : ∀ t : Fin cfg0.N, t.val = 6 → cfg0.idle 14 (grid0.coords t) = false := by decide +kernel

/-- Output 13 is stored into at the first point, -/
theorem live13 : ∀ t : Fin cfg0.N, t.val = 0 → cfg0.idle 13 (grid0.coords t) = false := by decide +kernel
/-- left alone at the points between, -/
theorem idle13 : ∀ t : Fin cfg0.N, t.val ≠ 0 → t.val ≠ 6 → cfg0.idle 13 (grid0.coords t) = true ∧ (cfg0.win 13).flush t = false := by decide +kernel
/-- and written back at the last. -/
theorem flush13 : ∀ t : Fin cfg0.N, t.val = 6 → (cfg0.win 13).flush t = true := by decide +kernel

/-- Whether output 13's buffer holds nothing yet, at each position. -/
def fresh13Tab : ℕ → Bool
  | 0 => true
  | n + 1 => (0x40 : ℕ).testBit n

theorem fresh13Tab_step : ∀ t : Fin cfg0.N,
    fresh13Tab (t.val + 1) = ((cfg0.win 13).flush t || (cfg0.idle 13 (cfg0.grid.coords t) && fresh13Tab t.val)) := by decide +kernel

theorem fresh13_eq (t : Fin cfg0.N) : cfg0.fresh 13 t.val = fresh13Tab t.val :=
  Pipeline.Cfg.fresh_tab cfg0 13 fresh13Tab rfl fresh13Tab_step t.val (Nat.le_of_lt t.isLt)

/-- After the first point it holds something. -/
theorem notFresh13 : ∀ t : Fin cfg0.N, t.val ≠ 0 → cfg0.fresh 13 t.val = false := by
  intro t; rw [fresh13_eq t]; revert t; decide +kernel

/-- What the body leaves in a window's buffer, where the window is stored into or written back. -/
theorem leaves_after {c : Dev nD} (dat : Dat τ (Elt F) Unit ℕ (UR sig nD τ) ℕ cfg0 c) (w : Fin cfg0.W) (t : Fin cfg0.N)
    (h : cfg0.idle w (grid0.coords t) = false ∨ (cfg0.win w).flush t = true) :
    dat.leavesExact w t = owns (c : Thread nD τ) ((cfg0.win w).stage (cfg0.slots t w)) fullShare (dat.after w t) := by
  unfold Dat.leavesExact
  rcases h with h | h
  · rw [h]
  · rw [h]; cases cfg0.idle w (cfg0.grid.coords t) <;> rfl

/-! ## The state the grid carries from point to point -/

/-- The product `x · lora_aᵀ` the first point computes. -/
def xaAt (c : Dev nD) : Vec F S1536x64 .bf16 := xaBlk (iblk m c 0 t0_0) (iblk m c 3 t0_0)

/-- The accumulator of the gradient of `x` after point `n`. -/
def accAt (c : Dev nD) : (n : ℕ) → n < cfg0.N → Vec F S1536x1536 .f32
  | 0, h => accStep (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) k0_pay7
  | n + 1, h => accStep (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (accAt c n (Nat.lt_of_succ_lt h))

/-- The accumulator of `g · lora_b` after point `n`. -/
def gbAt (c : Dev nD) : (n : ℕ) → n < cfg0.N → Vec F S1536x64 .f32
  | 0, h => gbStep (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) k0_pay8
  | n + 1, h => gbStep (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (gbAt c n (Nat.lt_of_succ_lt h))

theorem accAt_pos (c : Dev nD) (t : Fin cfg0.N) (h : t.val ≠ 0) :
    accAt m c t.val t.isLt = accStep (iblk m c 1 t) (iblk m c 2 t) (iblk m c 3 t) (iblk m c 4 t) (iblk m c 5 t) (iblk m c 6 t) (iblk m c 7 t) (accAt m c (t.val - 1) (Nat.lt_of_le_of_lt (Nat.sub_le _ _) t.isLt)) := by
  obtain ⟨n, hn⟩ := t
  cases n with
  | zero => exact absurd rfl h
  | succ n => rfl

theorem gbAt_pos (c : Dev nD) (t : Fin cfg0.N) (h : t.val ≠ 0) :
    gbAt m c t.val t.isLt = gbStep (iblk m c 1 t) (iblk m c 2 t) (iblk m c 3 t) (iblk m c 4 t) (iblk m c 5 t) (iblk m c 6 t) (iblk m c 7 t) (gbAt m c (t.val - 1) (Nat.lt_of_le_of_lt (Nat.sub_le _ _) t.isLt)) := by
  obtain ⟨n, hn⟩ := t
  cases n with
  | zero => exact absurd rfl h
  | succ n => rfl

theorem scratch_eq (c : Dev nD) :
    (Pipeline.ΦA spec0 c : sProp 𝕄)
      = iprop(iprop((∃ d, owns (c : Thread nD τ) (Memref.whole cc0_scratch0 : Memref sig .tc .vmem S1536x1536 .f32) fullShare d)
          ∗ (∃ d, owns (c : Thread nD τ) (Memref.whole cc0_scratch1 : Memref sig .tc .vmem S1536x64 .f32) fullShare d)) ∗ (∃ r, prngReg c r)) := by
  unfold Pipeline.ΦA; rw [scopedRest0_eq]; simp only [owns_whole]; try rfl

/-- What holds between the points: before the first, the scratch buffers at anything; after point `n`, the two accumulators. -/
def Inv (c : Dev nD) : (n : ℕ) → n ≤ cfg0.N → sProp 𝕄
  | 0, _ => Pipeline.ΦA spec0 c
  | n + 1, h => iprop(iprop(owns (c : Thread nD τ) (Memref.whole cc0_scratch0 : Memref sig .tc .vmem S1536x1536 .f32) fullShare (accAt m c n h)
      ∗ owns (c : Thread nD τ) (Memref.whole cc0_scratch1 : Memref sig .tc .vmem S1536x64 .f32) fullShare (gbAt m c n h)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (h : n < cfg0.N) :
    Inv m c (n + 1) h = iprop(iprop(owns (c : Thread nD τ) (Memref.whole cc0_scratch0 : Memref sig .tc .vmem S1536x1536 .f32) fullShare (accAt m c n h)
      ∗ owns (c : Thread nD τ) (Memref.whole cc0_scratch1 : Memref sig .tc .vmem S1536x64 .f32) fullShare (gbAt m c n h)) ∗ (∃ r, prngReg c r)) := rfl

theorem Inv_pos (c : Dev nD) (n : ℕ) (h : n ≤ cfg0.N) (hz : n ≠ 0) :
    Inv m c n h = iprop(iprop(owns (c : Thread nD τ) (Memref.whole cc0_scratch0 : Memref sig .tc .vmem S1536x1536 .f32) fullShare (accAt m c (n - 1) (by omega))
      ∗ owns (c : Thread nD τ) (Memref.whole cc0_scratch1 : Memref sig .tc .vmem S1536x64 .f32) fullShare (gbAt m c (n - 1) (by omega))) ∗ (∃ r, prngReg c r)) := by
  cases n with
  | zero => exact absurd rfl hz
  | succ n => rfl

/-- The proof data of the pipeline on core `c`: the arrays as the region finds them, what each window's buffer holds after
    the body at point `t`, and what holds between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay3 (accAt m c t.val t.isLt)
    | ⟨10, _⟩ => k0_pay5 (gbAt m c t.val t.isLt) (iblk m c 0 t)
    | ⟨11, _⟩ => dbBlk (iblk m c 1 t) (iblk m c 2 t) (iblk m c 3 t) (iblk m c 4 t) (iblk m c 5 t) (iblk m c 6 t) (iblk m c 7 t) (xaAt m c)
    | ⟨12, _⟩ => dmBlk (iblk m c 5 t) (iblk m c 6 t) (iblk m c 7 t) (iblk m c 8 t)
    | ⟨13, _⟩ => xaAt m c
    | ⟨14, _⟩ => k0_pay4 (gbAt m c t.val t.isLt)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = k0_pay3 (accAt m c t.val t.isLt) := by dsimp only [dats]
theorem after10 (c : Dev nD) (t : Fin cfg0.N) : (dats m 0 c).after 10 t = k0_pay5 (gbAt m c t.val t.isLt) (iblk m c 0 t) := by dsimp only [dats]
theorem after11 (c : Dev nD) (t : Fin cfg0.N) : (dats m 0 c).after 11 t = dbBlk (iblk m c 1 t) (iblk m c 2 t) (iblk m c 3 t) (iblk m c 4 t) (iblk m c 5 t) (iblk m c 6 t) (iblk m c 7 t) (xaAt m c) := by dsimp only [dats]
theorem after12 (c : Dev nD) (t : Fin cfg0.N) : (dats m 0 c).after 12 t = dmBlk (iblk m c 5 t) (iblk m c 6 t) (iblk m c 7 t) (iblk m c 8 t) := by dsimp only [dats]
theorem after13 (c : Dev nD) (t : Fin cfg0.N) : (dats m 0 c).after 13 t = xaAt m c := by dsimp only [dats]
theorem after14 (c : Dev nD) (t : Fin cfg0.N) : (dats m 0 c).after 14 t = k0_pay4 (gbAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- After the first point, output 13's buffer holds the product the first point stored. -/
theorem before13 (c : Dev nD) (t : Fin cfg0.N) (h : t.val ≠ 0) (d) : (dats m 0 c).before 13 t d = xaAt m c := by
  rw [Dat.before_out_traj _ 13 rfl (fun _ _ => rfl) (fun t _ _ _ => by rw [after13, after13]) t.val t rfl d,
    if_neg (by rw [notFresh13 t h]; exact Bool.false_ne_true)]
  exact after13 m c _

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0) : Memref sig .tc .vmem S1536x1536 .bf16) fullShare ((dats m 0 c).before 0 t d))
    ∗ (∃ d, owns (c : Thread nD τ) (win0_1.stage (cfg0.slots t 1) : Memref sig .tc .vmem S1280x1536 .fp8e4m3) fullShare ((dats m 0 c).before 1 t d))
    ∗ (∃ d, owns (c : Thread nD τ) (win0_2.stage (cfg0.slots t 2) : Memref sig .tc .vmem S1280x1 .f32) fullShare ((dats m 0 c).before 2 t d))
    ∗ (∃ d, owns (c : Thread nD τ) (win0_3.stage (cfg0.slots t 3) : Memref sig .tc .vmem S64x1536 .bf16) fullShare ((dats m 0 c).before 3 t d))
    ∗ (∃ d, owns (c : Thread nD τ) (win0_4.stage (cfg0.slots t 4) : Memref sig .tc .vmem S1280x64 .bf16) fullShare ((dats m 0 c).before 4 t d))
    ∗ (∃ d, owns (c : Thread nD τ) (win0_5.stage (cfg0.slots t 5) : Memref sig .tc .vmem S1x1280 .f32) fullShare ((dats m 0 c).before 5 t d))
    ∗ (∃ d, owns (c : Thread nD τ) (win0_6.stage (cfg0.slots t 6) : Memref sig .tc .vmem S1536x1280 .fp8e5m2) fullShare ((dats m 0 c).before 6 t d))
    ∗ (∃ d, owns (c : Thread nD τ) (win0_7.stage (cfg0.slots t 7) : Memref sig .tc .vmem S1536x1 .f32) fullShare ((dats m 0 c).before 7 t d))
    ∗ (∃ d, owns (c : Thread nD τ) (win0_8.stage (cfg0.slots t 8) : Memref sig .tc .vmem S1536x1280 .bf16) fullShare ((dats m 0 c).before 8 t d))
    ∗ (∃ d, owns (c : Thread nD τ) (win0_9.stage (cfg0.slots t 9) : Memref sig .tc .vmem S1536x1536 .bf16) fullShare ((dats m 0 c).before 9 t d))
    ∗ (∃ d, owns (c : Thread nD τ) (win0_10.stage (cfg0.slots t 10) : Memref sig .tc .vmem S64x1536 .bf16) fullShare ((dats m 0 c).before 10 t d))
    ∗ (∃ d, owns (c : Thread nD τ) (win0_11.stage (cfg0.slots t 11) : Memref sig .tc .vmem S1280x64 .bf16) fullShare ((dats m 0 c).before 11 t d))
    ∗ (∃ d, owns (c : Thread nD τ) (win0_12.stage (cfg0.slots t 12) : Memref sig .tc .vmem S1x1280 .f32) fullShare ((dats m 0 c).before 12 t d))
    ∗ (∃ d, owns (c : Thread nD τ) (win0_13.stage (cfg0.slots t 13) : Memref sig .tc .vmem S1536x64 .bf16) fullShare ((dats m 0 c).before 13 t d))
    ∗ (∃ d, owns (c : Thread nD τ) (win0_14.stage (cfg0.slots t 14) : Memref sig .tc .vmem S1536x64 .bf16) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 4000000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = Inv m c (t.val + 1) t.isLt from rfl, Inv_succ, Inv_castSucc]
  rw [leaves_after (dats m 0 c) 0 t (Or.inl rfl), after0]
  rw [leaves_after (dats m 0 c) 1 t (Or.inl rfl), after1]
  rw [leaves_after (dats m 0 c) 2 t (Or.inl rfl), after2]
  rw [leaves_after (dats m 0 c) 3 t (Or.inl rfl), after3]
  rw [leaves_after (dats m 0 c) 4 t (Or.inl rfl), after4]
  rw [leaves_after (dats m 0 c) 5 t (Or.inl rfl), after5]
  rw [leaves_after (dats m 0 c) 6 t (Or.inl rfl), after6]
  rw [leaves_after (dats m 0 c) 7 t (Or.inl rfl), after7]
  rw [leaves_after (dats m 0 c) 8 t (Or.inl rfl), after8]
  rw [leaves_after (dats m 0 c) 11 t (Or.inl rfl), after11]
  rw [leaves_after (dats m 0 c) 12 t (Or.inl rfl), after12]
  by_cases h0 : t.val = 0
  · obtain rfl : t = t0_0 := Fin.ext h0
    have h6 : (t0_0 : Fin cfg0.N).val ≠ 6 := by decide
    rw [Dat.leavesExact_idle (dats m 0 c) 9 t0_0 (idle9 _ h6).1 (idle9 _ h6).2]
    rw [Dat.leavesExact_idle (dats m 0 c) 10 t0_0 (idle10 _ h6).1 (idle10 _ h6).2]
    rw [leaves_after (dats m 0 c) 13 t0_0 (Or.inl (live13 _ h0)), after13]
    rw [Dat.leavesExact_idle (dats m 0 c) 14 t0_0 (idle14 _ h6).1 (idle14 _ h6).2]
    rw [Inv_zero m c _ _ h0, scratch_eq]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_first c (grid0.coords t0_0) _ _ _ _ _ _ _ _ _ _ _ _ _ _ _ _ _ _ _ _ _ _ _ _ _ _ _ _ _ _ _ _ _ _
      ((first_iff _).mpr h0) (fun h => h6 ((last_iff _).mp h))
      (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) _ _ _ Set.univ _)
    isplitl [H0 H1 H2 H3 H4 H5 H6 H7 H8]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    isplitl [H10]; · iexact H10
    isplitl [H11]; · iexists _; iexact H11
    isplitl [H12]; · iexists _; iexact H12
    isplitl [H13]; · iexists _; iexact H13
    isplitl [H14]; · iexact H14
    isplitl [HS0]; · iexists _; iexact HS0
    isplitl [HS1]; · iexists _; iexact HS1
    unfold ins
    iintro ⟨⟨H0, H1, H2, H3, H4, H5, H6, H7, H8⟩, H9, H10, H11, H12, H13, H14, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    isplitl [H13]; · iexact H13
    iexists _; iexact H14
  · rw [Inv_pos m c _ _ h0, accAt_pos m c t h0, gbAt_pos m c t h0]
    simp only [before13 m c t h0]
    by_cases h6 : t.val = 6
    · rw [leaves_after (dats m 0 c) 9 t (Or.inl (live9 t h6)), after9]
      rw [leaves_after (dats m 0 c) 10 t (Or.inl (live10 t h6)), after10]
      rw [leaves_after (dats m 0 c) 13 t (Or.inr (flush13 t h6)), after13]
      rw [leaves_after (dats m 0 c) 14 t (Or.inl (live14 t h6)), after14]
      rw [accAt_pos m c t h0, gbAt_pos m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (body_last c (grid0.coords t) _ _ _ _ _ _ _ _ _ _ _ _ _ _ _ _ _ _ _ _ _ _ _ _ _ _ _ _ _ _ _ _ _ _
        (fun h => h0 ((first_iff _).mp h)) ((last_iff _).mpr h6)
        (iblk m c 0 t) (iblk m c 1 t) (iblk m c 2 t) (iblk m c 3 t) (iblk m c 4 t) (iblk m c 5 t) (iblk m c 6 t) (iblk m c 7 t) (iblk m c 8 t) _ _ _ Set.univ _)
      isplitl [H0 H1 H2 H3 H4 H5 H6 H7 H8]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexists _; iexact H9
      isplitl [H10]; · iexists _; iexact H10
      isplitl [H11]; · iexists _; iexact H11
      isplitl [H12]; · iexists _; iexact H12
      isplitl [H13]; · iexact H13
      isplitl [H14]; · iexists _; iexact H14
      isplitl [HS0]; · iexact HS0
      isplitl [HS1]; · iexact HS1
      unfold ins
      iintro ⟨⟨H0, H1, H2, H3, H4, H5, H6, H7, H8⟩, H9, H10, H11, H12, H13, H14, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · rw [Dat.leavesExact_idle (dats m 0 c) 9 t (idle9 t h6).1 (idle9 t h6).2]
      rw [Dat.leavesExact_idle (dats m 0 c) 10 t (idle10 t h6).1 (idle10 t h6).2]
      rw [Dat.leavesExact_idle (dats m 0 c) 14 t (idle14 t h6).1 (idle14 t h6).2]
      rw [Dat.leavesExact_idle (dats m 0 c) 13 t (idle13 t h0 h6).1 (idle13 t h0 h6).2]
      simp only [before13 m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (body_mid c (grid0.coords t) _ _ _ _ _ _ _ _ _ _ _ _ _ _ _ _ _ _ _ _ _ _ _ _ _ _ _ _ _ _ _ _ _ _
        (fun h => h0 ((first_iff _).mp h)) (fun h => h6 ((last_iff _).mp h))
        (iblk m c 0 t) (iblk m c 1 t) (iblk m c 2 t) (iblk m c 3 t) (iblk m c 4 t) (iblk m c 5 t) (iblk m c 6 t) (iblk m c 7 t) (iblk m c 8 t) _ _ _ _ _ _ Set.univ _)
      isplitl [H0 H1 H2 H3 H4 H5 H6 H7 H8]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexact H9
      isplitl [H10]; · iexact H10
      isplitl [H11]; · iexists _; iexact H11
      isplitl [H12]; · iexists _; iexact H12
      isplitl [H13]; · iexact H13
      isplitl [H14]; · iexact H14
      isplitl [HS0]; · iexact HS0
      isplitl [HS1]; · iexact HS1
      unfold ins
      iintro ⟨⟨H0, H1, H2, H3, H4, H5, H6, H7, H8⟩, H9, H10, H11, H12, H13, H14, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexact H12
      isplitl [H13]; · iexists d13; iexact H13
      iexists _; iexact H14

/-- The pipeline's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Inv m c cfg0.N (Nat.le_refl _) from rfl, Inv_pos m c _ _ (by rw [show cfg0.N = 7 from N_0]; decide), scratch_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch: every array of the pipeline ends at what the proof data say, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Own

end
-- ==== Proof.KernelFrame.lean ====
/- The kernel as printed and the kernel as idealized are one text over two copies of the same declarations. This module
   says so, one declaration at a time, and carries the frame over: the printed kernel, at any values, runs to the end and
   leaves its arguments as they were. -/
module

public import proofs.«01_k».proof.Proof.Gen.Kernel
public import proofs.«01_k».proof.Proof.Run

@[expose] public section

set_option maxRecDepth 65536
set_option maxHeartbeats 2000000

noncomputable section

namespace Cert.Kernel.Own

open Idealize.ShloMosaic Idealize.ShloMosaic.TcCoe Idealize.SL.Sem

variable {F : FTy → Type} [FloatOps F]

/-- The two body tables are one: the only label is the kernel's body, and the two bodies have one text. -/
theorem defs0_eq : defs₀ (F := F) = Cert.KernelIdeal.defs₀ (F := F) := by
  unfold defs₀ Cert.KernelIdeal.defs₀
  congr 1
  funext x y
  obtain ⟨x, hx⟩ := x
  cases x with
  | zero => rfl
  | succ n => exact absurd hx (by omega)

/-- So are the tables with the pipeline's own labels. -/
theorem defs_eq : defs (F := F) = Cert.KernelIdeal.defs (F := F) := by
  unfold defs
  rw [defs0_eq]
  rfl

/-- And the two main programs. -/
theorem main_eq : main (F := F) = Cert.KernelIdeal.main (F := F) := rfl

/-- Every execution of the printed kernel ends with the argument arrays unchanged and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_eq]
  exact Cert.KernelIdeal.Own.frame m ρ

end Cert.Kernel.Own

end
-- ==== Proof.Spec.lean ====
/- What the layer's backward pass computes, as mathematics: plain sums and products of extended reals over plain indices,
   with no tile, no grid point and no format in it. The two programs are each shown to compute these. -/
module

public import Idealize.ShloMosaic.PureOps.Ideal

@[expose] public section

noncomputable section

namespace Cert.Dora

open Idealize.ShloMosaic
open scoped BigOperators

/-- The divisor guard: a positive value is kept, anything else becomes one. -/
def guard (v : EReal) : EReal := if 0 < v then v else 1

/-- The data of a layer with `O` output features: weight codes and their scale by row, the two adapter matrices, the
    magnitudes, and the incoming gradient's codes with their scale by token. -/
structure Layer (O : ℕ) where
  /-- the weight codes -/
  w : Fin O → Fin 1536 → EReal
  /-- the scale of each row of the weight -/
  ws : Fin O → EReal
  /-- the adapter's right factor -/
  a : Fin 64 → Fin 1536 → EReal
  /-- the adapter's left factor -/
  b : Fin O → Fin 64 → EReal
  /-- the magnitudes -/
  mg : Fin O → EReal
  /-- the gradient codes -/
  dy : Fin 1536 → Fin O → EReal
  /-- the scale of each token's gradient -/
  dys : Fin 1536 → EReal

namespace Layer

variable {O : ℕ} (L : Layer O)

/-- The adapted weight, before its rows are rescaled. -/
def weight (o : Fin O) (i : Fin 1536) : EReal := L.w o i * L.ws o + ∑ r : Fin 64, L.b o r * L.a r i

/-- The length of a row of the adapted weight. -/
def norm (o : Fin O) : EReal := Ideal.sqrt (∑ i : Fin 1536, L.weight o i * L.weight o i)

/-- The incoming gradient, decoded. -/
def dyf (t : Fin 1536) (o : Fin O) : EReal := L.dy t o * L.dys t

/-- The gradient by the adapted weight's product: each column scaled by its magnitude over its row's length. -/
def grad (t : Fin 1536) (o : Fin O) : EReal := L.dyf t o * Ideal.div (L.mg o) (guard (L.norm o))

/-- The gradient by the input. -/
def dx (t i : Fin 1536) : EReal := ∑ o : Fin O, L.grad t o * L.weight o i

/-- The gradient carried back through the left factor. -/
def gb (t : Fin 1536) (r : Fin 64) : EReal := ∑ o : Fin O, L.grad t o * L.b o r

/-- The gradient by the magnitudes, given the forward pass's output. -/
def dm (y : Fin 1536 → Fin O → EReal) (o : Fin O) : EReal :=
  Ideal.div (∑ t : Fin 1536, L.dyf t o * y t o) (guard (L.mg o))

/-- The input carried through the right factor. -/
def xa (x : Fin 1536 → Fin 1536 → EReal) (t : Fin 1536) (r : Fin 64) : EReal := ∑ i : Fin 1536, x t i * L.a r i

/-- The gradient by the right factor. -/
def da (x : Fin 1536 → Fin 1536 → EReal) (r : Fin 64) (i : Fin 1536) : EReal := ∑ t : Fin 1536, L.gb t r * x t i

/-- The gradient by the left factor. -/
def db (x : Fin 1536 → Fin 1536 → EReal) (o : Fin O) (r : Fin 64) : EReal := ∑ t : Fin 1536, L.grad t o * L.xa x t r

end Layer

/-! ## The features in seven runs of 1280 -/

/-- Feature `j` of run `s`. -/
def feat (s : Fin 7) (j : Fin 1280) : Fin 8960 := ⟨s.val * 1280 + j.val, by omega⟩

/-- The layer cut down to one run of its features. -/
def Layer.run (L : Layer 8960) (s : Fin 7) : Layer 1280 where
  w j := L.w (feat s j)
  ws j := L.ws (feat s j)
  a := L.a
  b j := L.b (feat s j)
  mg j := L.mg (feat s j)
  dy t j := L.dy t (feat s j)
  dys := L.dys

/-- A sum over `m * n` indices, by runs of `n`. -/
theorem sum_runs {m n N : ℕ} (h : m * n = N) (f : Fin N → EReal) :
    ∑ i : Fin N, f i = ∑ q : Fin m, ∑ k : Fin n, f ⟨q.val * n + k.val, by
      subst h
      calc q.val * n + k.val < q.val * n + n := by omega
        _ = (q.val + 1) * n := by ring
        _ ≤ m * n := Nat.mul_le_mul_right n q.isLt⟩ := by
  subst h
  rw [← Fintype.sum_prod_type', ← Equiv.sum_comp finProdFinEquiv]
  refine Finset.sum_congr rfl fun p _ => congrArg f (Fin.ext ?_)
  simp only [finProdFinEquiv_apply_val]
  ring

/-- A sum over the features, run by run. -/
theorem sum_feat (f : Fin 8960 → EReal) : ∑ o : Fin 8960, f o = ∑ s : Fin 7, ∑ j : Fin 1280, f (feat s j) :=
  sum_runs (m := 7) (n := 1280) rfl f

variable (L : Layer 8960)

/-- Each run's gradient by the input adds up to the whole. -/
theorem dx_runs (t i : Fin 1536) : L.dx t i = ∑ s : Fin 7, (L.run s).dx t i := sum_feat _

/-- So does the gradient carried back through the left factor. -/
theorem gb_runs (t : Fin 1536) (r : Fin 64) : L.gb t r = ∑ s : Fin 7, (L.run s).gb t r := sum_feat _

/-- A row's squares in twelve runs of 128, added run upon run first and then along the run, as the row's whole sum. -/
theorem sum_lanes (f : Fin 1536 → EReal) :
    ∑ k : Fin 128, ∑ q : Fin 12, f ⟨q.val * 128 + k.val, by omega⟩ = ∑ i : Fin 1536, f i := by
  rw [Finset.sum_comm]
  exact (sum_runs (m := 12) (n := 128) rfl f).symm

end Cert.Dora

end
-- ==== Proof.OpsAt.lean ====
/- The vector operations the two programs use, read at one index: products, sums along an axis, and a column or a row
   spread over a block. Every extent is a variable, so each statement serves the kernel's blocks and the whole arrays alike. -/
module

public import proofs.«01_k».proof.Proof.Spec
public import Idealize.ShloMosaic.Lib.MatmulPlain
public import Idealize.ShloMosaic.Lib.ValueIdx
public import Idealize.ShloMosaic.Lib.IdealHost
public import Idealize.ShloMosaic.Lib.Pipeline.Value

@[expose] public section

noncomputable section

namespace Cert.Dora

open Idealize.ShloMosaic Idealize.ShloMosaic.ValueIdx
open scoped BigOperators

variable {M K N : ℕ} {φ φ₁ φ₂ : FTy}

/-- The product of two matrices into a zero accumulator. -/
theorem mul_at (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (r : Fin M) (c : Fin N) :
    matmul d none lhs rhs (constant ⟨2, ![M, N]⟩ .f32 0x00000000#32) (ix2 r c) = ∑ k : Fin K, lhs (ix2 r k) * rhs (ix2 k c) := by
  subst hd
  refine (Ideal.matmul_plain_apply none lhs rhs _ r c).trans ?_
  rw [constant_apply, Ideal.ofBits_zero_f32, zero_add]

/-- The product of a matrix with a transposed one. -/
theorem mulT_at (d : DotDims ⟨2, ![M, K]⟩ ⟨2, ![N, K]⟩ ⟨2, ![M, N]⟩) (hd : d = DotDims.transposedRhs M K N)
    (lhs : FVec Ideal ⟨2, ![M, K]⟩ φ₁) (rhs : FVec Ideal ⟨2, ![N, K]⟩ φ₂) (r : Fin M) (c : Fin N) :
    matmul d none lhs rhs (constant ⟨2, ![M, N]⟩ .f32 0x00000000#32) (ix2 r c) = ∑ k : Fin K, lhs (ix2 r k) * rhs (ix2 c k) := by
  subst hd
  refine (Ideal.matmul_transposedRhs_apply none lhs rhs _ r c).trans ?_
  rw [constant_apply, Ideal.ofBits_zero_f32, zero_add]

/-- The product of a transposed matrix with a matrix. -/
theorem Tmul_at (d : DotDims ⟨2, ![K, M]⟩ ⟨2, ![K, N]⟩ ⟨2, ![M, N]⟩)
    (hlc : d.lhsContracting = [0]) (hrc : d.rhsContracting = [0]) (hln : d.lhsNonContracting = [1]) (hrn : d.rhsNonContracting = [1])
    (hlb : d.lhsBatch = []) (hrb : d.rhsBatch = [])
    (lhs : FVec Ideal ⟨2, ![K, M]⟩ φ₁) (rhs : FVec Ideal ⟨2, ![K, N]⟩ φ₂) (r : Fin M) (c : Fin N) :
    matmul d none lhs rhs (constant ⟨2, ![M, N]⟩ .f32 0x00000000#32) (ix2 r c) = ∑ k : Fin K, lhs (ix2 k r) * rhs (ix2 k c) := by
  obtain ⟨lc, rc, ln, rn, lb, rb, wf⟩ := d
  simp only at hlc hrc hln hrn hlb hrb
  subst hlc hrc hln hrn hlb hrb
  refine (Ideal.matmul_apply _ none lhs rhs _ (ix2 r c)).trans ?_
  rw [constant_apply, Ideal.ofBits_zero_f32, zero_add,
    ← Equiv.sum_comp (contrEquiv1 (⟨[0], [0], [1], [1], [], [], wf⟩ : DotDims ⟨2, ![K, M]⟩ ⟨2, ![K, N]⟩ ⟨2, ![M, N]⟩) K rfl rfl).symm]
  refine Finset.sum_congr rfl fun k _ => ?_
  have hk := contrEquiv1_symm_val (⟨[0], [0], [1], [1], [], [], wf⟩ : DotDims ⟨2, ![K, M]⟩ ⟨2, ![K, N]⟩ ⟨2, ![M, N]⟩) K rfl rfl k
  congr 1
  · refine congrArg lhs (funext fun a => Fin.ext ?_)
    match a with
    | ⟨0, _⟩ => exact hk
    | ⟨1, _⟩ => rfl
  · refine congrArg rhs (funext fun a => Fin.ext ?_)
    match a with
    | ⟨0, _⟩ => exact hk
    | ⟨1, _⟩ => rfl

/-- A column spread over the columns of a block. -/
theorem col_at {α : Type} (v : (⟨2, ![M, 1]⟩ : Shape).Idx → α) (h : (⟨2, ![M, 1]⟩ : Shape).Broadcasts ⟨2, ![M, N]⟩) (r : Fin M) (c : Fin N) :
    broadcastTo ⟨2, ![M, N]⟩ v h (ix2 r c) = v (ix2 r 0) := by
  refine broadcastTo_apply v h _ _ fun a => ?_
  match a with
  | ⟨0, _⟩ =>
    show r.val = if M = 1 then 0 else r.val
    split
    · have := r.isLt; omega
    · rfl
  | ⟨1, _⟩ => rfl

/-- A row spread over the rows of a block. -/
theorem row_at {α : Type} (v : (⟨2, ![1, N]⟩ : Shape).Idx → α) (h : (⟨2, ![1, N]⟩ : Shape).Broadcasts ⟨2, ![M, N]⟩) (r : Fin M) (c : Fin N) :
    broadcastTo ⟨2, ![M, N]⟩ v h (ix2 r c) = v (ix2 0 c) := by
  refine broadcastTo_apply v h _ _ fun a => ?_
  match a with
  | ⟨0, _⟩ => rfl
  | ⟨1, _⟩ =>
    show c.val = if N = 1 then 0 else c.val
    split
    · have := c.isLt; omega
    · rfl

/-- A list stood up as a column. -/
theorem asCol_at {α : Type} (v : (⟨1, ![M]⟩ : Shape).Idx → α) (h : (⟨1, ![M]⟩ : Shape).ShapeCasts ⟨2, ![M, 1]⟩) (r : Fin M) (c : Fin 1) :
    shapeCast ⟨2, ![M, 1]⟩ v h (ix2 r c) = v (ix1 r) := by
  refine shapeCast_apply v h _ _ ?_
  rw [Shape.rowMajor_val_one, Shape.rowMajor_val_two]
  show r.val = r.val * 1 + c.val
  omega

/-- A list laid down as a row. -/
theorem asRow_at {α : Type} (v : (⟨1, ![N]⟩ : Shape).Idx → α) (h : (⟨1, ![N]⟩ : Shape).ShapeCasts ⟨2, ![1, N]⟩) (r : Fin 1) (c : Fin N) :
    shapeCast ⟨2, ![1, N]⟩ v h (ix2 r c) = v (ix1 c) := by
  refine shapeCast_apply v h _ _ ?_
  rw [Shape.rowMajor_val_one, Shape.rowMajor_val_two]
  show c.val = r.val * N + c.val
  have : r.val = 0 := by omega
  rw [this]; omega

/-- The sum down each column. -/
theorem sumCols_at (v : FVec Ideal ⟨2, ![M, N]⟩ .f32) (h : (⟨2, ![M, N]⟩ : Shape).Reduces [0] ⟨1, ![N]⟩) (hφ : FKind.Formats .f32)
    (hacc : (0x00000000#32 : BitVec (FTy.bits .f32)) = FKind.add.neutral .f32 hφ) (c : Fin N) :
    multiReduction .add [0] ⟨1, ![N]⟩ v 0x00000000#32 h hφ hacc (ix1 c) = ∑ r : Fin M, v (ix2 r c) := by
  refine (Ideal.multiReduction_add_single v _ h hφ hacc (ix1 c)).trans ?_
  refine Finset.sum_congr rfl fun k _ => congrArg v (funext fun a => Fin.ext ?_)
  match a with
  | ⟨0, _⟩ => rfl
  | ⟨1, _⟩ => rfl

/-- The sum along each row. -/
theorem sumRows_at (v : FVec Ideal ⟨2, ![M, N]⟩ .f32) (h : (⟨2, ![M, N]⟩ : Shape).Reduces [1] ⟨1, ![M]⟩) (hφ : FKind.Formats .f32)
    (hacc : (0x00000000#32 : BitVec (FTy.bits .f32)) = FKind.add.neutral .f32 hφ) (r : Fin M) :
    multiReduction .add [1] ⟨1, ![M]⟩ v 0x00000000#32 h hφ hacc (ix1 r) = ∑ c : Fin N, v (ix2 r c) := by
  refine (Ideal.multiReduction_add_single v _ h hφ hacc (ix1 r)).trans ?_
  refine Finset.sum_congr rfl fun k _ => congrArg v (funext fun a => Fin.ext ?_)
  match a with
  | ⟨0, _⟩ => rfl
  | ⟨1, _⟩ => rfl

/-- The guard as the programs spell it: a comparison with zero and a choice. -/
theorem guard_at (v : Ideal .f32) :
    Scalar.select (FloatOps.cmpf (F := Ideal) (φ := .f32) .ogt v (Scalar.ofBits .f32 0x00000000#32)) v (Scalar.ofBits (F := Ideal) .f32 0x3F800000#32)
      = guard v := by
  show Scalar.select (Ideal.cmp .ogt v (Ideal.ofBits .f32 0x00000000#32)) v (Ideal.ofBits .f32 0x3F800000#32) = guard v
  rw [Ideal.ofBits_zero_f32, Ideal.ofBits_one_f32]
  unfold guard Scalar.select Ideal.cmp
  by_cases h : (0 : EReal) < v
  · rw [if_pos h]; simp [h]
  · rw [if_neg h]; simp [h]

end Cert.Dora

end
-- ==== Proof.Block.lean ====
/- What one step of the kernel's grid computes, read at `Ideal`: on blocks of 1280 features, the layer's formulas for
   those 1280 features. -/
module

public import proofs.«01_k».proof.Proof.Step
public import proofs.«01_k».proof.Proof.OpsAt

@[expose] public section

set_option maxRecDepth 16384

noncomputable section

namespace Cert.KernelIdeal.Own

open Idealize.ShloMosaic Idealize.ShloMosaic.ValueIdx Cert.Dora
open Cert.KernelIdeal Cert.KernelIdeal.Gen
open scoped BigOperators

variable (x : Vec Ideal S1536x1536 .bf16) (w : Vec Ideal S1280x1536 .fp8e4m3) (ws : Vec Ideal S1280x1 .f32)
  (a : Vec Ideal S64x1536 .bf16) (b : Vec Ideal S1280x64 .bf16) (mg : Vec Ideal S1x1280 .f32)
  (dy : Vec Ideal S1536x1280 .fp8e5m2) (dys : Vec Ideal S1536x1 .f32) (y : Vec Ideal S1536x1280 .bf16)

/-- The layer of 1280 features whose data the blocks hold. -/
def blkLayer : Layer 1280 where
  w o i := w (ix2 o i)
  ws o := ws (ix2 o 0)
  a r i := a (ix2 r i)
  b o r := b (ix2 o r)
  mg o := mg (ix2 0 o)
  dy t o := dy (ix2 t o)
  dys t := dys (ix2 t 0)

/-- The adapted weight's block. -/
theorem weight_at (o : Fin 1280) (i : Fin 1536) :
    k0_pay9 (F := Ideal) b w ws a (ix2 o i) = (blkLayer w ws a b mg dy dys).weight o i := by
  unfold k0_pay9
  simp only [addf_apply, mulf_apply, extf_apply]
  rw [col_at, shapeCast_self]
  exact congrArg (w (ix2 o i) * ws (ix2 o 0) + ·) (mul_at (φ₁ := .bf16) (φ₂ := .bf16) _ rfl b a o i)

/-- Twelve addends in a row, as one sum. -/
theorem add_twelve (f : Fin 12 → EReal) :
    f 0 + f 1 + f 2 + f 3 + f 4 + f 5 + f 6 + f 7 + f 8 + f 9 + f 10 + f 11 = ∑ q : Fin 12, f q := by
  simp only [Fin.sum_univ_castSucc, Fin.sum_univ_zero, zero_add]
  rfl

/-- A run of 128 columns of a block, read at one index. -/
theorem slice_at (v : Vec Ideal S1280x1536 .f32) (n : ℕ) (h : S1280x1536.Slices ![0, n] S1280x128) (q : Fin 12) (hq : q.val * 128 = n)
    (o : Fin 1280) (k : Fin 128) :
    extractStridedSlice S1280x128 ![0, n] v h (ix2 o k) = v (ix2 o ⟨q.val * 128 + k.val, by omega⟩) := by
  refine extractStridedSlice_apply _ v h _ _ fun ax => ?_
  match ax with
  | ⟨0, _⟩ => show o.val = 0 + o.val; omega
  | ⟨1, _⟩ => show q.val * 128 + k.val = n + k.val; omega

/-- The lengths of the block's rows, laid down as a row. -/
theorem norm_at (o : Fin 1280) (z : Fin 1) :
    k0_pay10 (F := Ideal) b w ws a (ix2 z o) = (blkLayer w ws a b mg dy dys).norm o := by
  unfold k0_pay10
  unfold Layer.norm
  refine congrArg Ideal.sqrt ?_
  rw [← sum_lanes, asRow_at]
  refine (sumCols_at _ _ _ _ o).trans (Finset.sum_congr rfl fun k _ => ?_)
  rw [transpose_apply _ _ _ (ix2 k o) (ix2 o k) (fun ax => by match ax with | ⟨0, _⟩ => rfl | ⟨1, _⟩ => rfl)]
  simp only [addf_apply]
  rw [slice_at _ 0 _ 0 rfl, slice_at _ 128 _ 1 rfl, slice_at _ 256 _ 2 rfl, slice_at _ 384 _ 3 rfl, slice_at _ 512 _ 4 rfl,
    slice_at _ 640 _ 5 rfl, slice_at _ 768 _ 6 rfl, slice_at _ 896 _ 7 rfl, slice_at _ 1024 _ 8 rfl, slice_at _ 1152 _ 9 rfl,
    slice_at _ 1280 _ 10 rfl, slice_at _ 1408 _ 11 rfl]
  simp only [mulf_apply, weight_at w ws a b mg dy dys]
  exact add_twelve fun q => (blkLayer w ws a b mg dy dys).weight o ⟨q.val * 128 + k.val, by omega⟩
    * (blkLayer w ws a b mg dy dys).weight o ⟨q.val * 128 + k.val, by omega⟩

/-- The decoded gradient's block. -/
theorem dyf_at (t : Fin 1536) (o : Fin 1280) :
    k0_pay12 (F := Ideal) dy dys (ix2 t o) = (blkLayer w ws a b mg dy dys).dyf t o := by
  unfold k0_pay12
  simp only [mulf_apply, extf_apply]
  rw [col_at, shapeCast_self, shapeCast_self]
  rfl

/-- The rescaled gradient's block. -/
theorem grad_at (t : Fin 1536) (o : Fin 1280) :
    k0_pay14 (F := Ideal) (k0_pay10 b w ws a) (k0_pay11 mg) zeroF dy dys (ix2 t o) = (blkLayer w ws a b mg dy dys).grad t o := by
  unfold k0_pay14
  simp only [truncf_apply, mulf_apply]
  rw [row_at, dyf_at w ws a b mg dy dys]
  simp only [divf_apply, select_apply, cmpf_apply, broadcast_apply, norm_at w ws a b mg dy dys, k0_pay11, shapeCast_self]
  unfold zeroF Layer.grad
  rw [guard_at]
  rfl

/-- One step adds its features' part of the gradient by the input. -/
theorem accStep_at (acc : Vec Ideal S1536x1536 .f32) (t i : Fin 1536) :
    accStep w ws a b mg dy dys acc (ix2 t i) = acc (ix2 t i) + (blkLayer w ws a b mg dy dys).dx t i := by
  unfold accStep k0_pay15
  simp only [shapeCast_self, addf_apply]
  refine congrArg (acc (ix2 t i) + ·) ((mul_at (φ₁ := .bf16) (φ₂ := .bf16) _ rfl _ _ t i).trans ?_)
  simp only [truncf_apply, grad_at, weight_at w ws a b mg dy dys]
  rfl

/-- And its features' part of the gradient carried back through the left factor. -/
theorem gbStep_at (gb : Vec Ideal S1536x64 .f32) (t : Fin 1536) (r : Fin 64) :
    gbStep w ws a b mg dy dys gb (ix2 t r) = gb (ix2 t r) + (blkLayer w ws a b mg dy dys).gb t r := by
  unfold gbStep k0_pay1 k0_pay16
  simp only [shapeCast_self, addf_apply]
  refine congrArg (gb (ix2 t r) + ·) ((mul_at (φ₁ := .bf16) (φ₂ := .bf16) _ rfl _ _ t r).trans ?_)
  simp only [grad_at]
  rfl

/-- The gradient by the magnitudes of the step's features. -/
theorem dmBlk_at (z : Fin 1) (o : Fin 1280) :
    dmBlk mg dy dys y (ix2 z o) = (blkLayer w ws a b mg dy dys).dm (fun t o => y (ix2 t o)) o := by
  have hz : z = 0 := Subsingleton.elim _ _
  subst hz
  unfold dmBlk k0_pay13
  simp only [divf_apply, select_apply, cmpf_apply, broadcast_apply, k0_pay11, shapeCast_self]
  rw [asRow_at]
  refine congrArg₂ Ideal.div ((sumCols_at _ _ _ _ o).trans ?_) (guard_at _)
  simp only [mulf_apply, extf_apply, dyf_at w ws a b mg dy dys]

/-- The product of the input and the right factor. -/
theorem xaBlk_at (t : Fin 1536) (r : Fin 64) :
    xaBlk x a (ix2 t r) = ∑ i : Fin 1536, x (ix2 t i) * a (ix2 r i) := by
  unfold xaBlk k0_pay6
  simp only [truncf_apply, shapeCast_self]
  exact mulT_at _ rfl _ _ t r

/-- The gradient by the left factor, on the step's features. -/
theorem dbBlk_at (xa : Vec Ideal S1536x64 .bf16) (o : Fin 1280) (r : Fin 64) :
    dbBlk w ws a b mg dy dys xa (ix2 o r) = ∑ t : Fin 1536, (blkLayer w ws a b mg dy dys).grad t o * xa (ix2 t r) := by
  unfold dbBlk gBlk k0_pay2
  simp only [truncf_apply, shapeCast_self]
  rw [Tmul_at _ rfl rfl rfl rfl rfl rfl]
  simp only [grad_at]

/-- The gradient by the right factor, from what was carried back. -/
theorem daBlk_at (gb : Vec Ideal S1536x64 .f32) (r : Fin 64) (i : Fin 1536) :
    k0_pay5 (F := Ideal) gb x (ix2 r i) = ∑ t : Fin 1536, gb (ix2 t r) * x (ix2 t i) := by
  unfold k0_pay5 k0_pay4
  simp only [truncf_apply, shapeCast_self]
  rw [Tmul_at _ rfl rfl rfl rfl rfl rfl]
  rfl

/-- The accumulators start at zero. -/
theorem accZero_at (t i : Fin 1536) : k0_pay7 (F := Ideal) (ix2 t i) = 0 := by
  unfold k0_pay7
  simp only [shapeCast_self, broadcast_apply]
  exact Ideal.ofBits_zero_f32

theorem gbZero_at (t : Fin 1536) (r : Fin 64) : k0_pay8 (F := Ideal) (ix2 t r) = 0 := by
  unfold k0_pay8
  simp only [shapeCast_self, broadcast_apply]
  exact Ideal.ofBits_zero_f32

end Cert.KernelIdeal.Own

end
-- ==== Proof.Data.lean ====
/- The layer whose data the nine argument arrays hold, and the six result arrays of its backward pass. Tokens come as
   three batches of 512 and are counted through. -/
module

public import proofs.«01_k».proof.Proof.OpsAt

@[expose] public section

noncomputable section

namespace Cert.Dora

open Idealize.ShloMosaic Idealize.ShloMosaic.ValueIdx

/-- The batch of token `t`, -/
def batch (t : Fin 1536) : Fin 3 := ⟨t.val / 512, by omega⟩
/-- and its place there. -/
def place (t : Fin 1536) : Fin 512 := ⟨t.val % 512, by omega⟩

/-- Batches of rows, read as one run of rows. -/
theorem rows_at {α : Type} {N : ℕ} (v : (⟨3, ![3, 512, N]⟩ : Shape).Idx → α) (h : (⟨3, ![3, 512, N]⟩ : Shape).ShapeCasts ⟨2, ![1536, N]⟩)
    (t : Fin 1536) (i : Fin N) : shapeCast ⟨2, ![1536, N]⟩ v h (ix2 t i) = v (ix3 (batch t) (place t) i) := by
  refine shapeCast_apply v h _ _ ?_
  rw [Shape.rowMajor_val_two, Shape.rowMajor_val_three]
  show (t.val / 512 * 512 + t.val % 512) * N + i.val = t.val * N + i.val
  rw [Nat.div_add_mod']

/-- Batches of numbers, read as one column. -/
theorem column_at {α : Type} (v : (⟨2, ![3, 512]⟩ : Shape).Idx → α) (h : (⟨2, ![3, 512]⟩ : Shape).ShapeCasts ⟨2, ![1536, 1]⟩)
    (t : Fin 1536) (z : Fin 1) : shapeCast ⟨2, ![1536, 1]⟩ v h (ix2 t z) = v (ix2 (batch t) (place t)) := by
  refine shapeCast_apply v h _ _ ?_
  rw [Shape.rowMajor_val_two, Shape.rowMajor_val_two]
  show t.val / 512 * 512 + t.val % 512 = t.val * 1 + z.val
  omega

/-- Batches of numbers, read as one list. -/
theorem list_at {α : Type} (v : (⟨2, ![3, 512]⟩ : Shape).Idx → α) (h : (⟨2, ![3, 512]⟩ : Shape).ShapeCasts ⟨1, ![1536]⟩)
    (t : Fin 1536) : shapeCast ⟨1, ![1536]⟩ v h (ix1 t) = v (ix2 (batch t) (place t)) := by
  refine shapeCast_apply v h _ _ ?_
  rw [Shape.rowMajor_val_two, Shape.rowMajor_val_one]
  show t.val / 512 * 512 + t.val % 512 = t.val
  omega

/-- The argument arrays. -/
structure Args where
  /-- the input -/
  x : (⟨3, ![3, 512, 1536]⟩ : Shape).Idx → EReal
  /-- the weight codes -/
  w : (⟨2, ![8960, 1536]⟩ : Shape).Idx → EReal
  /-- the scale of each row of the weight -/
  ws : (⟨1, ![8960]⟩ : Shape).Idx → EReal
  /-- the adapter's right factor -/
  a : (⟨2, ![64, 1536]⟩ : Shape).Idx → EReal
  /-- the adapter's left factor -/
  b : (⟨2, ![8960, 64]⟩ : Shape).Idx → EReal
  /-- the magnitudes -/
  mg : (⟨1, ![8960]⟩ : Shape).Idx → EReal
  /-- the gradient codes -/
  dy : (⟨3, ![3, 512, 8960]⟩ : Shape).Idx → EReal
  /-- the scale of each token's gradient -/
  dys : (⟨2, ![3, 512]⟩ : Shape).Idx → EReal
  /-- the forward pass's output -/
  y : (⟨3, ![3, 512, 8960]⟩ : Shape).Idx → EReal

namespace Args

variable (A : Args)

/-- The layer they hold, -/
def layer : Layer 8960 where
  w o i := A.w (ix2 o i)
  ws o := A.ws (ix1 o)
  a r i := A.a (ix2 r i)
  b o r := A.b (ix2 o r)
  mg o := A.mg (ix1 o)
  dy t o := A.dy (ix3 (batch t) (place t) o)
  dys t := A.dys (ix2 (batch t) (place t))

/-- the input token by token, -/
def input (t i : Fin 1536) : EReal := A.x (ix3 (batch t) (place t) i)

/-- and the forward pass's output token by token. -/
def output (t : Fin 1536) (o : Fin 8960) : EReal := A.y (ix3 (batch t) (place t) o)

/-! ## The results -/

/-- The gradient by the input. -/
def dx : (⟨2, ![1536, 1536]⟩ : Shape).Idx → EReal := fun i => A.layer.dx (i 0) (i 1)
/-- The gradient by the adapter's right factor. -/
def da : (⟨2, ![64, 1536]⟩ : Shape).Idx → EReal := fun i => A.layer.da A.input (i 0) (i 1)
/-- The gradient by the adapter's left factor. -/
def db : (⟨2, ![8960, 64]⟩ : Shape).Idx → EReal := fun i => A.layer.db A.input (i 0) (i 1)
/-- The gradient by the magnitudes. -/
def dm : (⟨2, ![1, 8960]⟩ : Shape).Idx → EReal := fun i => A.layer.dm A.output (i 1)
/-- The input carried through the right factor. -/
def xa : (⟨2, ![1536, 64]⟩ : Shape).Idx → EReal := fun i => A.layer.xa A.input (i 0) (i 1)
/-- The gradient carried back through the left factor. -/
def gb : (⟨2, ![1536, 64]⟩ : Shape).Idx → EReal := fun i => A.layer.gb (i 0) (i 1)

end Args

end Cert.Dora

end
-- ==== Proof.Arrays.lean ====
/- The kernel's grid over the argument arrays, at `Ideal`: the block each point works on is a run of 1280 features of the
   whole layer, and the two accumulators hold the sums over the runs so far. -/
module

public import proofs.«01_k».proof.Proof.Block
public import proofs.«01_k».proof.Proof.Data
public import proofs.«01_k».proof.Proof.Run
public import Idealize.ShloMosaic.Lib.Pipeline.ValueKit
public import Idealize.ShloMosaic.Lib.Claim

@[expose] public section

set_option maxRecDepth 16384

noncomputable section

namespace Cert.KernelIdeal.Own

open Idealize.ShloMosaic hiding ix1 ix2 ix3
open Idealize.ShloMosaic.TcCoe Idealize.ShloMosaic.ValueIdx Cert.Dora
open Idealize.ShloMosaic.Pipeline (Dat Cfg Window)
open Cert.KernelIdeal Cert.KernelIdeal.Gen
open scoped BigOperators

variable (m : (ℓ : Loc nD τ sig) → Buf (Elt Ideal) ℓ) (c : Dev nD)

/-- The argument arrays core `c` is launched with. -/
def args : Args where
  x := m ((c : Thread nD τ).loc main_arg0)
  w := m ((c : Thread nD τ).loc main_arg1)
  ws := m ((c : Thread nD τ).loc main_arg2)
  a := m ((c : Thread nD τ).loc main_arg3)
  b := m ((c : Thread nD τ).loc main_arg4)
  mg := m ((c : Thread nD τ).loc main_arg5)
  dy := m ((c : Thread nD τ).loc main_arg6)
  dys := m ((c : Thread nD τ).loc main_arg7)
  y := m ((c : Thread nD τ).loc main_arg8)

/-- The run of features point `t` works on. -/
def runOf (t : Fin cfg0.N) : Fin 7 := ⟨t.val, t.isLt⟩

/-! ## Where each point's blocks lie -/

theorem at0 : ∀ t : Fin cfg0.N, win0_0.index t = ![0, 0] := (by decide +kernel : ∀ t : Fin grid0.N, win0_0.index t = ![0, 0])
theorem at1 : ∀ t : Fin cfg0.N, win0_1.index t = ![t.val, 0] := (by decide +kernel : ∀ t : Fin grid0.N, win0_1.index t = ![t.val, 0])
theorem at2 : ∀ t : Fin cfg0.N, win0_2.index t = ![t.val, 0] := (by decide +kernel : ∀ t : Fin grid0.N, win0_2.index t = ![t.val, 0])
theorem at3 : ∀ t : Fin cfg0.N, win0_3.index t = ![0, 0] := (by decide +kernel : ∀ t : Fin grid0.N, win0_3.index t = ![0, 0])
theorem at4 : ∀ t : Fin cfg0.N, win0_4.index t = ![t.val, 0] := (by decide +kernel : ∀ t : Fin grid0.N, win0_4.index t = ![t.val, 0])
theorem at5 : ∀ t : Fin cfg0.N, win0_5.index t = ![0, t.val] := (by decide +kernel : ∀ t : Fin grid0.N, win0_5.index t = ![0, t.val])
theorem at6 : ∀ t : Fin cfg0.N, win0_6.index t = ![0, t.val] := (by decide +kernel : ∀ t : Fin grid0.N, win0_6.index t = ![0, t.val])
theorem at7 : ∀ t : Fin cfg0.N, win0_7.index t = ![0, 0] := (by decide +kernel : ∀ t : Fin grid0.N, win0_7.index t = ![0, 0])
theorem at8 : ∀ t : Fin cfg0.N, win0_8.index t = ![0, t.val] := (by decide +kernel : ∀ t : Fin grid0.N, win0_8.index t = ![0, t.val])

/-! ## Where a block's element sits in its array -/

theorem emb0 (t : Fin cfg0.N) (p i : Fin 1536) : ((cfg0.win 0).blk t).view.emb (ix2 p i) = ix2 p i := by blk_ext [at0 t]
theorem emb1 (t : Fin cfg0.N) (o : Fin 1280) (i : Fin 1536) : ((cfg0.win 1).blk t).view.emb (ix2 o i) = ix2 (feat (runOf t) o) i := by
  blk_ext [at1 t]; rfl
theorem emb2 (t : Fin cfg0.N) (o : Fin 1280) (z : Fin 1) : ((cfg0.win 2).blk t).view.emb (ix2 o z) = ix2 (feat (runOf t) o) z := by
  blk_ext [at2 t]; rfl
theorem emb3 (t : Fin cfg0.N) (r : Fin 64) (i : Fin 1536) : ((cfg0.win 3).blk t).view.emb (ix2 r i) = ix2 r i := by blk_ext [at3 t]
theorem emb4 (t : Fin cfg0.N) (o : Fin 1280) (r : Fin 64) : ((cfg0.win 4).blk t).view.emb (ix2 o r) = ix2 (feat (runOf t) o) r := by
  blk_ext [at4 t]; rfl
theorem emb5 (t : Fin cfg0.N) (z : Fin 1) (o : Fin 1280) : ((cfg0.win 5).blk t).view.emb (ix2 z o) = ix2 z (feat (runOf t) o) := by
  blk_ext [at5 t]; rfl
theorem emb6 (t : Fin cfg0.N) (p : Fin 1536) (o : Fin 1280) : ((cfg0.win 6).blk t).view.emb (ix2 p o) = ix2 p (feat (runOf t) o) := by
  blk_ext [at6 t]; rfl
theorem emb7 (t : Fin cfg0.N) (p : Fin 1536) (z : Fin 1) : ((cfg0.win 7).blk t).view.emb (ix2 p z) = ix2 p z := by blk_ext [at7 t]
theorem emb8 (t : Fin cfg0.N) (p : Fin 1536) (o : Fin 1280) : ((cfg0.win 8).blk t).view.emb (ix2 p o) = ix2 p (feat (runOf t) o) := by
  blk_ext [at8 t]; rfl

/-! ## What each point's blocks hold -/

theorem iblk0_at (t : Fin cfg0.N) (p i : Fin 1536) : iblk m c 0 t (ix2 p i) = (args m c).input p i := by
  show V m c main_v0 (((cfg0.win 0).blk t).view.emb (ix2 p i)) = _
  rw [emb0]
  entry_read
  exact rows_at _ _ p i

theorem iblk1_at (t : Fin cfg0.N) (o : Fin 1280) (i : Fin 1536) :
    iblk m c 1 t (ix2 o i) = (args m c).layer.w (feat (runOf t) o) i := by
  show V m c main_arg1 (((cfg0.win 1).blk t).view.emb (ix2 o i)) = _
  rw [emb1, V_main_arg1]
  rfl

theorem iblk2_at (t : Fin cfg0.N) (o : Fin 1280) : iblk m c 2 t (ix2 o 0) = (args m c).layer.ws (feat (runOf t) o) := by
  show V m c main_v1 (((cfg0.win 2).blk t).view.emb (ix2 o 0)) = _
  rw [emb2]
  entry_read
  exact asCol_at _ _ (feat (runOf t) o) 0

theorem iblk3_at (t : Fin cfg0.N) (r : Fin 64) (i : Fin 1536) : iblk m c 3 t (ix2 r i) = (args m c).layer.a r i := by
  show V m c main_arg3 (((cfg0.win 3).blk t).view.emb (ix2 r i)) = _
  rw [emb3, V_main_arg3]
  rfl

theorem iblk4_at (t : Fin cfg0.N) (o : Fin 1280) (r : Fin 64) :
    iblk m c 4 t (ix2 o r) = (args m c).layer.b (feat (runOf t) o) r := by
  show V m c main_arg4 (((cfg0.win 4).blk t).view.emb (ix2 o r)) = _
  rw [emb4, V_main_arg4]
  rfl

theorem iblk5_at (t : Fin cfg0.N) (o : Fin 1280) : iblk m c 5 t (ix2 0 o) = (args m c).layer.mg (feat (runOf t) o) := by
  show V m c main_v2 (((cfg0.win 5).blk t).view.emb (ix2 0 o)) = _
  rw [emb5]
  entry_read
  exact asRow_at _ _ 0 (feat (runOf t) o)

theorem iblk6_at (t : Fin cfg0.N) (p : Fin 1536) (o : Fin 1280) :
    iblk m c 6 t (ix2 p o) = (args m c).layer.dy p (feat (runOf t) o) := by
  show V m c main_v3 (((cfg0.win 6).blk t).view.emb (ix2 p o)) = _
  rw [emb6]
  entry_read
  exact rows_at _ _ p (feat (runOf t) o)

theorem iblk7_at (t : Fin cfg0.N) (p : Fin 1536) : iblk m c 7 t (ix2 p 0) = (args m c).layer.dys p := by
  show V m c main_v4 (((cfg0.win 7).blk t).view.emb (ix2 p 0)) = _
  rw [emb7]
  entry_read
  exact column_at _ _ p 0

theorem iblk8_at (t : Fin cfg0.N) (p : Fin 1536) (o : Fin 1280) :
    iblk m c 8 t (ix2 p o) = (args m c).output p (feat (runOf t) o) := by
  show V m c main_v5 (((cfg0.win 8).blk t).view.emb (ix2 p o)) = _
  rw [emb8]
  entry_read
  exact rows_at _ _ p (feat (runOf t) o)

/-- A point's blocks hold its run of the layer's features. -/
theorem blkLayer_eq (t : Fin cfg0.N) :
    blkLayer (iblk m c 1 t) (iblk m c 2 t) (iblk m c 3 t) (iblk m c 4 t) (iblk m c 5 t) (iblk m c 6 t) (iblk m c 7 t)
      = (args m c).layer.run (runOf t) := by
  unfold blkLayer Layer.run
  rw [Layer.mk.injEq]
  exact ⟨funext₂ (iblk1_at m c t), funext (iblk2_at m c t), funext₂ (iblk3_at m c t), funext₂ (iblk4_at m c t),
    funext (iblk5_at m c t), funext₂ (iblk6_at m c t), funext (iblk7_at m c t)⟩

/-! ## What the grid carries from point to point -/

/-- The product of the input and the right factor. -/
theorem xaAt_at (p : Fin 1536) (r : Fin 64) : xaAt m c (ix2 p r) = (args m c).layer.xa (args m c).input p r := by
  unfold xaAt
  rw [xaBlk_at]
  exact Finset.sum_congr rfl fun i _ => congrArg₂ (· * ·) (iblk0_at m c t0_0 p i) (iblk3_at m c t0_0 r i)

/-- After point `n` the first accumulator holds the runs up to it. -/
theorem accAt_at (p i : Fin 1536) : ∀ (n : ℕ) (h : n < cfg0.N),
    accAt m c n h (ix2 p i) = ∑ s : Fin (n + 1), ((args m c).layer.run ⟨s.val, lt_of_lt_of_le s.isLt h⟩).dx p i
  | 0, h => by
    unfold accAt
    rw [accStep_at, accZero_at, blkLayer_eq, zero_add, Fin.sum_univ_one]
    rfl
  | n + 1, h => by
    unfold accAt
    rw [accStep_at, accAt_at p i n (Nat.lt_of_succ_lt h), blkLayer_eq]
    exact (Fin.sum_univ_castSucc (n := n + 1) fun s : Fin (n + 2) => ((args m c).layer.run ⟨s.val, lt_of_lt_of_le s.isLt h⟩).dx p i).symm

/-- And so does the second. -/
theorem gbAt_at (p : Fin 1536) (r : Fin 64) : ∀ (n : ℕ) (h : n < cfg0.N),
    gbAt m c n h (ix2 p r) = ∑ s : Fin (n + 1), ((args m c).layer.run ⟨s.val, lt_of_lt_of_le s.isLt h⟩).gb p r
  | 0, h => by
    unfold gbAt
    rw [gbStep_at, gbZero_at, blkLayer_eq, zero_add, Fin.sum_univ_one]
    rfl
  | n + 1, h => by
    unfold gbAt
    rw [gbStep_at, gbAt_at p r n (Nat.lt_of_succ_lt h), blkLayer_eq]
    exact (Fin.sum_univ_castSucc (n := n + 1) fun s : Fin (n + 2) => ((args m c).layer.run ⟨s.val, lt_of_lt_of_le s.isLt h⟩).gb p r).symm

/-- After the last point the first accumulator holds the whole gradient by the input, -/
theorem accAt_last (t : Fin cfg0.N) (ht : t.val = 6) (p i : Fin 1536) :
    accAt m c t.val t.isLt (ix2 p i) = (args m c).layer.dx p i := by
  obtain ⟨n, hn⟩ := t
  subst ht
  exact (accAt_at m c p i 6 hn).trans (dx_runs (args m c).layer p i).symm

/-- and the second the whole gradient carried back through the left factor. -/
theorem gbAt_last (t : Fin cfg0.N) (ht : t.val = 6) (p : Fin 1536) (r : Fin 64) :
    gbAt m c t.val t.isLt (ix2 p r) = (args m c).layer.gb p r := by
  obtain ⟨n, hn⟩ := t
  subst ht
  exact (gbAt_at m c p r 6 hn).trans (gb_runs (args m c).layer p r).symm

end Cert.KernelIdeal.Own

end
-- ==== Proof.Results.lean ====
/- What the kernel's six result arrays hold after a run, at `Ideal`: the layer's backward pass on the argument arrays. -/
module

public import proofs.«01_k».proof.Proof.Arrays

@[expose] public section

set_option maxRecDepth 16384

noncomputable section

namespace Cert.KernelIdeal.Own

open Idealize.ShloMosaic hiding ix1 ix2 ix3
open Idealize.ShloMosaic.TcCoe Idealize.ShloMosaic.ValueIdx Cert.Dora Idealize.SL.Sem
open Idealize.ShloMosaic.Pipeline (Dat Cfg Window)
open Cert.KernelIdeal Cert.KernelIdeal.Gen
open scoped BigOperators

variable (m : (ℓ : Loc nD τ sig) → Buf (Elt Ideal) ℓ) (ρ : Dev nD → PrngReg) (c : Dev nD)

/-! ## Where each point's results lie, and when they are written back -/

theorem at9 : ∀ t : Fin cfg0.N, win0_9.index t = ![0, 0] := (by decide +kernel : ∀ t : Fin grid0.N, win0_9.index t = ![0, 0])
theorem at10 : ∀ t : Fin cfg0.N, win0_10.index t = ![0, 0] := (by decide +kernel : ∀ t : Fin grid0.N, win0_10.index t = ![0, 0])
theorem at11 : ∀ t : Fin cfg0.N, win0_11.index t = ![t.val, 0] := (by decide +kernel : ∀ t : Fin grid0.N, win0_11.index t = ![t.val, 0])
theorem at12 : ∀ t : Fin cfg0.N, win0_12.index t = ![0, t.val] := (by decide +kernel : ∀ t : Fin grid0.N, win0_12.index t = ![0, t.val])
theorem at13 : ∀ t : Fin cfg0.N, win0_13.index t = ![0, 0] := (by decide +kernel : ∀ t : Fin grid0.N, win0_13.index t = ![0, 0])
theorem at14 : ∀ t : Fin cfg0.N, win0_14.index t = ![0, 0] := (by decide +kernel : ∀ t : Fin grid0.N, win0_14.index t = ![0, 0])

theorem emb9 (t : Fin cfg0.N) (p i : Fin 1536) : ((cfg0.win 9).blk t).view.emb (ix2 p i) = ix2 p i := by blk_ext [at9 t]
theorem emb10 (t : Fin cfg0.N) (r : Fin 64) (i : Fin 1536) : ((cfg0.win 10).blk t).view.emb (ix2 r i) = ix2 r i := by blk_ext [at10 t]
theorem emb11 (t : Fin cfg0.N) (o : Fin 1280) (r : Fin 64) : ((cfg0.win 11).blk t).view.emb (ix2 o r) = ix2 (feat (runOf t) o) r := by
  blk_ext [at11 t]; rfl
theorem emb12 (t : Fin cfg0.N) (z : Fin 1) (o : Fin 1280) : ((cfg0.win 12).blk t).view.emb (ix2 z o) = ix2 z (feat (runOf t) o) := by
  blk_ext [at12 t]; rfl
theorem emb13 (t : Fin cfg0.N) (p : Fin 1536) (r : Fin 64) : ((cfg0.win 13).blk t).view.emb (ix2 p r) = ix2 p r := by blk_ext [at13 t]
theorem emb14 (t : Fin cfg0.N) (p : Fin 1536) (r : Fin 64) : ((cfg0.win 14).blk t).view.emb (ix2 p r) = ix2 p r := by blk_ext [at14 t]

/-- The accumulated results are written back after the last point only. -/
theorem last9 (t : Fin cfg0.N) (hf : (cfg0.win 9).flush t = true) : t.val = 6 := by
  by_contra h
  exact Bool.false_ne_true ((idle9 t h).2.symm.trans hf)
theorem last10 (t : Fin cfg0.N) (hf : (cfg0.win 10).flush t = true) : t.val = 6 := by
  by_contra h
  exact Bool.false_ne_true ((idle10 t h).2.symm.trans hf)
theorem last14 (t : Fin cfg0.N) (hf : (cfg0.win 14).flush t = true) : t.val = 6 := by
  by_contra h
  exact Bool.false_ne_true ((idle14 t h).2.symm.trans hf)

/-! ## The six arrays after the run -/

/-- The gradient by the input. -/
theorem final9 : (dats m 0 c).arrAt 9 cfg0.N = (args m c).dx := by
  refine (dats m 0 c).arrAt_eq_of_covers 9 _ (by decide +kernel) fun t hf y => ?_
  blk_simp
  obtain ⟨p, i, rfl⟩ : ∃ (p : Fin 1536) (i : Fin 1536), y = ix2 p i := ⟨y 0, y 1, ValueIdx.eq_ix2 y⟩
  rw [after9]
  refine Eq.trans ?_ (congrArg (args m c).dx (emb9 t p i).symm)
  exact accAt_last m c t (last9 t hf) p i

/-- The gradient by the right factor. -/
theorem final10 : (dats m 0 c).arrAt 10 cfg0.N = (args m c).da := by
  refine (dats m 0 c).arrAt_eq_of_covers 10 _ (by decide +kernel) fun t hf y => ?_
  blk_simp
  obtain ⟨r, i, rfl⟩ : ∃ (r : Fin 64) (i : Fin 1536), y = ix2 r i := ⟨y 0, y 1, ValueIdx.eq_ix2 y⟩
  rw [after10]
  refine Eq.trans ?_ (congrArg (args m c).da (emb10 t r i).symm)
  refine (daBlk_at _ _ r i).trans ?_
  show _ = ∑ p : Fin 1536, (args m c).layer.gb p r * (args m c).input p i
  refine Finset.sum_congr rfl fun p _ => ?_
  exact congrArg₂ (· * ·) (gbAt_last m c t (last10 t hf) p r) (iblk0_at m c t p i)

/-- The gradient by the left factor. -/
theorem final11 : (dats m 0 c).arrAt 11 cfg0.N = (args m c).db := by
  refine (dats m 0 c).arrAt_eq_of_covers 11 _ (by decide +kernel) fun t hf y => ?_
  blk_simp
  obtain ⟨o, r, rfl⟩ : ∃ (o : Fin 1280) (r : Fin 64), y = ix2 o r := ⟨y 0, y 1, ValueIdx.eq_ix2 y⟩
  rw [after11]
  refine Eq.trans ?_ (congrArg (args m c).db (emb11 t o r).symm)
  refine (dbBlk_at _ _ _ _ _ _ _ _ o r).trans ?_
  show _ = ∑ p : Fin 1536, ((args m c).layer.run (runOf t)).grad p o * (args m c).layer.xa (args m c).input p r
  refine Finset.sum_congr rfl fun p _ => ?_
  rw [blkLayer_eq, xaAt_at]

/-- The gradient by the magnitudes. -/
theorem final12 : (dats m 0 c).arrAt 12 cfg0.N = (args m c).dm := by
  refine (dats m 0 c).arrAt_eq_of_covers 12 _ (by decide +kernel) fun t hf y => ?_
  blk_simp
  obtain ⟨z, o, rfl⟩ : ∃ (z : Fin 1) (o : Fin 1280), y = ix2 z o := ⟨y 0, y 1, ValueIdx.eq_ix2 y⟩
  rw [after12]
  refine Eq.trans ?_ (congrArg (args m c).dm (emb12 t z o).symm)
  refine (dmBlk_at (iblk m c 1 t) (iblk m c 2 t) (iblk m c 3 t) (iblk m c 4 t) _ _ _ _ z o).trans ?_
  rw [blkLayer_eq, show (fun p o => iblk m c 8 t (ix2 p o)) = fun p o => (args m c).output p (feat (runOf t) o) from
    funext₂ (iblk8_at m c t)]
  rfl

/-- The input carried through the right factor. -/
theorem final13 : (dats m 0 c).arrAt 13 cfg0.N = (args m c).xa := by
  refine (dats m 0 c).arrAt_eq_of_covers 13 _ (by decide +kernel) fun t hf y => ?_
  blk_simp
  obtain ⟨p, r, rfl⟩ : ∃ (p : Fin 1536) (r : Fin 64), y = ix2 p r := ⟨y 0, y 1, ValueIdx.eq_ix2 y⟩
  rw [after13]
  refine Eq.trans ?_ (congrArg (args m c).xa (emb13 t p r).symm)
  exact xaAt_at m c p r

/-- The gradient carried back through the left factor. -/
theorem final14 : (dats m 0 c).arrAt 14 cfg0.N = (args m c).gb := by
  refine (dats m 0 c).arrAt_eq_of_covers 14 _ (by decide +kernel) fun t hf y => ?_
  blk_simp
  obtain ⟨p, r, rfl⟩ : ∃ (p : Fin 1536) (r : Fin 64), y = ix2 p r := ⟨y 0, y 1, ValueIdx.eq_ix2 y⟩
  rw [after14]
  refine Eq.trans ?_ (congrArg (args m c).gb (emb14 t p r).symm)
  exact gbAt_last m c t (last14 t hf) p r

/-- Every execution ends with the six results of the layer's backward pass, and with the arguments unchanged. -/
theorem run_values : θ_run (defs (F := Ideal)) (onTc (τ := τ) (main (F := Ideal))) ⟨m, fun _ => 0, ρ⟩ fun r => ∀ c : Dev nD,
      r.2.mem ((c.tc : Thread nD τ).loc main_v6_0) = (args m c).dx
      ∧ r.2.mem ((c.tc : Thread nD τ).loc main_v6_1) = (args m c).da
      ∧ r.2.mem ((c.tc : Thread nD τ).loc main_v6_2) = (args m c).db
      ∧ r.2.mem ((c.tc : Thread nD τ).loc main_v6_3) = (args m c).dm
      ∧ r.2.mem ((c.tc : Thread nD τ).loc main_v6_4) = (args m c).xa
      ∧ r.2.mem ((c.tc : Thread nD τ).loc main_v6_5) = (args m c).gb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    have h := h.1
    ⟨((h c).1 9).trans (final9 m c), ((h c).1 10).trans (final10 m c), ((h c).1 11).trans (final11 m c),
      ((h c).1 12).trans (final12 m c), ((h c).1 13).trans (final13 m c), ((h c).1 14).trans (final14 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.Own

end
-- ==== Proof.RefBlock.lean ====
/- What the reference computes, read at `Ideal`: on whole arrays, the layer's formulas for all 8960 features. -/
module

public import proofs.«01_k».proof.Proof.Gen.ReferenceIdeal.Skeleton
public import proofs.«01_k».proof.Proof.OpsAt

@[expose] public section

set_option maxRecDepth 16384

noncomputable section

namespace Cert.ReferenceIdeal.Own

open Idealize.ShloMosaic Idealize.ShloMosaic.ValueIdx Cert.Dora
open Cert.ReferenceIdeal Cert.ReferenceIdeal.Gen
open scoped BigOperators

variable (x : Vec Ideal S1536x1536 .bf16) (w : Vec Ideal S8960x1536 .fp8e4m3) (ws : Vec Ideal S8960 .f32)
  (a : Vec Ideal S64x1536 .bf16) (b : Vec Ideal S8960x64 .bf16) (mg : Vec Ideal S8960 .f32)
  (dy : Vec Ideal S1536x8960 .fp8e5m2) (dys : Vec Ideal S1536 .f32) (y : Vec Ideal S1536x8960 .bf16)

/-- The layer whose data the arrays hold. -/
def arrLayer : Layer 8960 where
  w o i := w (ix2 o i)
  ws o := ws (ix1 o)
  a r i := a (ix2 r i)
  b o r := b (ix2 o r)
  mg o := mg (ix1 o)
  dy t o := dy (ix2 t o)
  dys t := dys (ix1 t)

/-- The adapted weight. -/
theorem weight_at (o : Fin 8960) (i : Fin 1536) :
    k0_pay9 (F := Ideal) a b w ws (ix2 o i) = (arrLayer w ws a b mg dy dys).weight o i := by
  unfold k0_pay9
  simp only [addf_apply, mulf_apply, extf_apply]
  rw [col_at, asCol_at]
  exact congrArg (w (ix2 o i) * ws (ix1 o) + ·) (mul_at (φ₁ := .bf16) (φ₂ := .bf16) _ rfl b a o i)

/-- The length of each of its rows. -/
theorem norm_at (o : Fin 8960) :
    sqrt (multiReduction .add [1] S8960 (mulf (k0_pay9 (F := Ideal) a b w ws) (k0_pay9 a b w ws)) 0x00000000#32
      reduces_S8960x1536_S8960 (.inl rfl) rfl) (ix1 o) = (arrLayer w ws a b mg dy dys).norm o := by
  unfold Layer.norm
  refine congrArg Ideal.sqrt ((sumRows_at _ _ _ _ o).trans (Finset.sum_congr rfl fun i _ => ?_))
  rw [mulf_apply, weight_at w ws a b mg dy dys]

/-- The magnitudes over the lengths. -/
theorem scale_at (o : Fin 8960) :
    k0_pay10 (F := Ideal) a b mg w ws (ix1 o)
      = Ideal.div (mg (ix1 o)) (guard ((arrLayer w ws a b mg dy dys).norm o)) := by
  unfold k0_pay10
  simp only [divf_apply, select_apply, cmpf_apply, broadcast_apply, norm_at w ws a b mg dy dys]
  rw [guard_at]

/-- The decoded gradient. -/
theorem dyf_at (t : Fin 1536) (o : Fin 8960) :
    k0_pay12 (F := Ideal) dy dys (ix2 t o) = (arrLayer w ws a b mg dy dys).dyf t o := by
  unfold k0_pay12
  simp only [mulf_apply, extf_apply]
  rw [col_at, asCol_at, shapeCast_self, shapeCast_self]
  rfl

/-- The rescaled gradient. -/
theorem grad_at (t : Fin 1536) (o : Fin 8960) :
    k0_pay2 (F := Ideal) (k0_pay10 a b mg w ws) (k0_pay12 dy dys) (ix2 t o) = (arrLayer w ws a b mg dy dys).grad t o := by
  unfold k0_pay2
  simp only [truncf_apply, mulf_apply]
  rw [row_at, asRow_at, dyf_at w ws a b mg dy dys, scale_at w ws a b mg dy dys]
  rfl

/-- The gradient by the input. -/
theorem dx_at (t i : Fin 1536) :
    k0_pay3 (F := Ideal) (k0_pay10 a b mg w ws) (k0_pay11 a b w ws) (k0_pay12 dy dys) (ix2 t i)
      = (arrLayer w ws a b mg dy dys).dx t i := by
  unfold k0_pay3 k0_pay11
  simp only [truncf_apply]
  refine (mul_at (φ₁ := .bf16) (φ₂ := .bf16) _ rfl _ _ t i).trans ?_
  simp only [truncf_apply, grad_at, weight_at w ws a b mg dy dys]
  rfl

/-- The gradient carried back through the left factor. -/
theorem gb_at (t : Fin 1536) (r : Fin 64) :
    k0_pay5 (F := Ideal) b (k0_pay10 a b mg w ws) (k0_pay12 dy dys) (ix2 t r) = (arrLayer w ws a b mg dy dys).gb t r := by
  unfold k0_pay5
  simp only [truncf_apply]
  refine (mul_at (φ₁ := .bf16) (φ₂ := .bf16) _ rfl _ _ t r).trans ?_
  simp only [grad_at]
  rfl

/-- The input carried through the right factor. -/
theorem xa_at (t : Fin 1536) (r : Fin 64) :
    k0_pay4 (F := Ideal) x a (ix2 t r) = (arrLayer w ws a b mg dy dys).xa (fun t i => x (ix2 t i)) t r := by
  unfold k0_pay4
  simp only [truncf_apply]
  exact mulT_at (φ₁ := .bf16) (φ₂ := .bf16) _ rfl x a t r

/-- The gradient by the right factor. -/
theorem da_at (r : Fin 64) (i : Fin 1536) :
    k0_pay6 (F := Ideal) x b (k0_pay10 a b mg w ws) (k0_pay12 dy dys) (ix2 r i)
      = (arrLayer w ws a b mg dy dys).da (fun t i => x (ix2 t i)) r i := by
  unfold k0_pay6
  simp only [truncf_apply]
  rw [Tmul_at _ rfl rfl rfl rfl rfl rfl]
  simp only [gb_at]
  rfl

/-- The gradient by the left factor. -/
theorem db_at (o : Fin 8960) (r : Fin 64) :
    k0_pay7 (F := Ideal) x a (k0_pay10 a b mg w ws) (k0_pay12 dy dys) (ix2 o r)
      = (arrLayer w ws a b mg dy dys).db (fun t i => x (ix2 t i)) o r := by
  unfold k0_pay7
  simp only [truncf_apply]
  rw [Tmul_at _ rfl rfl rfl rfl rfl rfl]
  simp only [grad_at, xa_at x w ws a b mg dy dys]
  rfl

/-- The gradient by the magnitudes. -/
theorem dm_at (z : Fin 1) (o : Fin 8960) :
    k0_pay1 (F := Ideal) mg (k0_pay13 dy dys y) (k0_pay14 mg) k0_pay15 (ix2 z o)
      = (arrLayer w ws a b mg dy dys).dm (fun t o => y (ix2 t o)) o := by
  unfold k0_pay1 k0_pay13 k0_pay14 k0_pay15
  rw [asRow_at]
  simp only [divf_apply, select_apply, cmpf_apply, broadcast_apply, shapeCast_self]
  refine congrArg₂ Ideal.div ((sumCols_at _ _ _ _ o).trans ?_) (guard_at _)
  simp only [mulf_apply, extf_apply, dyf_at w ws a b mg dy dys]

end Cert.ReferenceIdeal.Own

end
-- ==== Proof.RefResults.lean ====
/- What the reference's six result arrays hold after a run, at `Ideal`: the layer's backward pass on the argument arrays. -/
module

public import proofs.«01_k».proof.Proof.RefBlock
public import proofs.«01_k».proof.Proof.Data
public import proofs.«01_k».proof.Proof.Gen.ReferenceIdeal.Value
public import Idealize.ShloMosaic.Lib.Pipeline.ValueKit
public import Idealize.ShloMosaic.Lib.Claim

@[expose] public section

set_option maxRecDepth 16384

noncomputable section

namespace Cert.ReferenceIdeal.Own

open Idealize.ShloMosaic hiding ix1 ix2 ix3
open Idealize.ShloMosaic.TcCoe Idealize.ShloMosaic.ValueIdx Cert.Dora Idealize.SL.Sem
open Idealize.ShloMosaic.Pipeline (Dat Cfg Window)
open Cert.ReferenceIdeal Cert.ReferenceIdeal.Gen
open scoped BigOperators

variable (m : (ℓ : Loc nD τ sig) → Buf (Elt Ideal) ℓ) (ρ : Dev nD → PrngReg) (c : Dev nD)

/-- The argument arrays core `c` is launched with. -/
def args : Args where
  x := m ((c : Thread nD τ).loc main_arg0)
  w := m ((c : Thread nD τ).loc main_arg1)
  ws := m ((c : Thread nD τ).loc main_arg2)
  a := m ((c : Thread nD τ).loc main_arg3)
  b := m ((c : Thread nD τ).loc main_arg4)
  mg := m ((c : Thread nD τ).loc main_arg5)
  dy := m ((c : Thread nD τ).loc main_arg6)
  dys := m ((c : Thread nD τ).loc main_arg7)
  y := m ((c : Thread nD τ).loc main_arg8)

/-! ## Each block is its whole array -/

theorem at0 : ∀ t : Fin cfg0.N, win0_0.index t = ![0, 0] := (by decide +kernel : ∀ t : Fin grid0.N, win0_0.index t = ![0, 0])
theorem at1 : ∀ t : Fin cfg0.N, win0_1.index t = ![0, 0] := (by decide +kernel : ∀ t : Fin grid0.N, win0_1.index t = ![0, 0])
theorem at2 : ∀ t : Fin cfg0.N, win0_2.index t = ![0] := (by decide +kernel : ∀ t : Fin grid0.N, win0_2.index t = ![0])
theorem at3 : ∀ t : Fin cfg0.N, win0_3.index t = ![0, 0] := (by decide +kernel : ∀ t : Fin grid0.N, win0_3.index t = ![0, 0])
theorem at4 : ∀ t : Fin cfg0.N, win0_4.index t = ![0, 0] := (by decide +kernel : ∀ t : Fin grid0.N, win0_4.index t = ![0, 0])
theorem at5 : ∀ t : Fin cfg0.N, win0_5.index t = ![0] := (by decide +kernel : ∀ t : Fin grid0.N, win0_5.index t = ![0])
theorem at6 : ∀ t : Fin cfg0.N, win0_6.index t = ![0, 0] := (by decide +kernel : ∀ t : Fin grid0.N, win0_6.index t = ![0, 0])
theorem at7 : ∀ t : Fin cfg0.N, win0_7.index t = ![0] := (by decide +kernel : ∀ t : Fin grid0.N, win0_7.index t = ![0])
theorem at8 : ∀ t : Fin cfg0.N, win0_8.index t = ![0, 0] := (by decide +kernel : ∀ t : Fin grid0.N, win0_8.index t = ![0, 0])
theorem at9 : ∀ t : Fin cfg0.N, win0_9.index t = ![0, 0] := (by decide +kernel : ∀ t : Fin grid0.N, win0_9.index t = ![0, 0])
theorem at10 : ∀ t : Fin cfg0.N, win0_10.index t = ![0, 0] := (by decide +kernel : ∀ t : Fin grid0.N, win0_10.index t = ![0, 0])
theorem at11 : ∀ t : Fin cfg0.N, win0_11.index t = ![0, 0] := (by decide +kernel : ∀ t : Fin grid0.N, win0_11.index t = ![0, 0])
theorem at12 : ∀ t : Fin cfg0.N, win0_12.index t = ![0, 0] := (by decide +kernel : ∀ t : Fin grid0.N, win0_12.index t = ![0, 0])
theorem at13 : ∀ t : Fin cfg0.N, win0_13.index t = ![0, 0] := (by decide +kernel : ∀ t : Fin grid0.N, win0_13.index t = ![0, 0])
theorem at14 : ∀ t : Fin cfg0.N, win0_14.index t = ![0, 0] := (by decide +kernel : ∀ t : Fin grid0.N, win0_14.index t = ![0, 0])

variable (t : Fin cfg0.N)

theorem emb0 (p i : Fin 1536) : ((cfg0.win 0).blk t).view.emb (ix2 p i) = ix2 p i := by blk_ext [at0 t]
theorem emb1 (o : Fin 8960) (i : Fin 1536) : ((cfg0.win 1).blk t).view.emb (ix2 o i) = ix2 o i := by blk_ext [at1 t]
theorem emb2 (o : Fin 8960) : ((cfg0.win 2).blk t).view.emb (ix1 o) = ix1 o := by blk_ext [at2 t]
theorem emb3 (r : Fin 64) (i : Fin 1536) : ((cfg0.win 3).blk t).view.emb (ix2 r i) = ix2 r i := by blk_ext [at3 t]
theorem emb4 (o : Fin 8960) (r : Fin 64) : ((cfg0.win 4).blk t).view.emb (ix2 o r) = ix2 o r := by blk_ext [at4 t]
theorem emb5 (o : Fin 8960) : ((cfg0.win 5).blk t).view.emb (ix1 o) = ix1 o := by blk_ext [at5 t]
theorem emb6 (p : Fin 1536) (o : Fin 8960) : ((cfg0.win 6).blk t).view.emb (ix2 p o) = ix2 p o := by blk_ext [at6 t]
theorem emb7 (p : Fin 1536) : ((cfg0.win 7).blk t).view.emb (ix1 p) = ix1 p := by blk_ext [at7 t]
theorem emb8 (p : Fin 1536) (o : Fin 8960) : ((cfg0.win 8).blk t).view.emb (ix2 p o) = ix2 p o := by blk_ext [at8 t]
theorem emb9 (p i : Fin 1536) : ((cfg0.win 9).blk t).view.emb (ix2 p i) = ix2 p i := by blk_ext [at9 t]
theorem emb10 (r : Fin 64) (i : Fin 1536) : ((cfg0.win 10).blk t).view.emb (ix2 r i) = ix2 r i := by blk_ext [at10 t]
theorem emb11 (o : Fin 8960) (r : Fin 64) : ((cfg0.win 11).blk t).view.emb (ix2 o r) = ix2 o r := by blk_ext [at11 t]
theorem emb12 (z : Fin 1) (o : Fin 8960) : ((cfg0.win 12).blk t).view.emb (ix2 z o) = ix2 z o := by blk_ext [at12 t]
theorem emb13 (p : Fin 1536) (r : Fin 64) : ((cfg0.win 13).blk t).view.emb (ix2 p r) = ix2 p r := by blk_ext [at13 t]
theorem emb14 (p : Fin 1536) (r : Fin 64) : ((cfg0.win 14).blk t).view.emb (ix2 p r) = ix2 p r := by blk_ext [at14 t]

/-! ## What the blocks hold -/

theorem iblk0_at (p i : Fin 1536) : iblk m c 0 t (ix2 p i) = (args m c).input p i := by
  show V m c main_v0 (((cfg0.win 0).blk t).view.emb (ix2 p i)) = _
  rw [emb0]
  entry_read
  exact rows_at _ _ p i

theorem iblk1_at (o : Fin 8960) (i : Fin 1536) : iblk m c 1 t (ix2 o i) = (args m c).layer.w o i := by
  show V m c main_arg1 (((cfg0.win 1).blk t).view.emb (ix2 o i)) = _
  rw [emb1, V_main_arg1]
  rfl

theorem iblk2_at (o : Fin 8960) : iblk m c 2 t (ix1 o) = (args m c).layer.ws o := by
  show V m c main_arg2 (((cfg0.win 2).blk t).view.emb (ix1 o)) = _
  rw [emb2, V_main_arg2]
  rfl

theorem iblk3_at (r : Fin 64) (i : Fin 1536) : iblk m c 3 t (ix2 r i) = (args m c).layer.a r i := by
  show V m c main_arg3 (((cfg0.win 3).blk t).view.emb (ix2 r i)) = _
  rw [emb3, V_main_arg3]
  rfl

theorem iblk4_at (o : Fin 8960) (r : Fin 64) : iblk m c 4 t (ix2 o r) = (args m c).layer.b o r := by
  show V m c main_arg4 (((cfg0.win 4).blk t).view.emb (ix2 o r)) = _
  rw [emb4, V_main_arg4]
  rfl

theorem iblk5_at (o : Fin 8960) : iblk m c 5 t (ix1 o) = (args m c).layer.mg o := by
  show V m c main_arg5 (((cfg0.win 5).blk t).view.emb (ix1 o)) = _
  rw [emb5, V_main_arg5]
  rfl

theorem iblk6_at (p : Fin 1536) (o : Fin 8960) : iblk m c 6 t (ix2 p o) = (args m c).layer.dy p o := by
  show V m c main_v1 (((cfg0.win 6).blk t).view.emb (ix2 p o)) = _
  rw [emb6]
  entry_read
  exact rows_at _ _ p o

theorem iblk7_at (p : Fin 1536) : iblk m c 7 t (ix1 p) = (args m c).layer.dys p := by
  show V m c main_v2 (((cfg0.win 7).blk t).view.emb (ix1 p)) = _
  rw [emb7]
  entry_read
  exact list_at _ _ p

theorem iblk8_at (p : Fin 1536) (o : Fin 8960) : iblk m c 8 t (ix2 p o) = (args m c).output p o := by
  show V m c main_v3 (((cfg0.win 8).blk t).view.emb (ix2 p o)) = _
  rw [emb8]
  entry_read
  exact rows_at _ _ p o

/-- The blocks hold the layer, -/
theorem arrLayer_eq :
    arrLayer (iblk m c 1 t) (iblk m c 2 t) (iblk m c 3 t) (iblk m c 4 t) (iblk m c 5 t) (iblk m c 6 t) (iblk m c 7 t)
      = (args m c).layer := by
  unfold arrLayer
  rw [show (args m c).layer = ⟨(args m c).layer.w, (args m c).layer.ws, (args m c).layer.a, (args m c).layer.b,
    (args m c).layer.mg, (args m c).layer.dy, (args m c).layer.dys⟩ from rfl, Layer.mk.injEq]
  exact ⟨funext₂ (iblk1_at m c t), funext (iblk2_at m c t), funext₂ (iblk3_at m c t), funext₂ (iblk4_at m c t),
    funext (iblk5_at m c t), funext₂ (iblk6_at m c t), funext (iblk7_at m c t)⟩

/-- the input -/
theorem input_eq : (fun p i => iblk m c 0 t (ix2 p i)) = (args m c).input := funext₂ (iblk0_at m c t)
/-- and the forward pass's output. -/
theorem output_eq : (fun p o => iblk m c 8 t (ix2 p o)) = (args m c).output := funext₂ (iblk8_at m c t)

/-! ## What the body leaves, with its loads and stores of whole buffers read away -/

section Outs

variable (x0 : Vec Ideal S1536x1536 .bf16) (x1 : Vec Ideal S8960x1536 .fp8e4m3) (x2 : Vec Ideal S8960 .f32)
  (x3 : Vec Ideal S64x1536 .bf16) (x4 : Vec Ideal S8960x64 .bf16) (x5 : Vec Ideal S8960 .f32)
  (x6 : Vec Ideal S1536x8960 .fp8e5m2) (x7 : Vec Ideal S1536 .f32) (x8 : Vec Ideal S1536x8960 .bf16)

theorem off1 : (![0] : Fin 1 → ℕ) = fun _ => 0 := by decide
theorem off2 : (![0, 0] : Fin 2 → ℕ) = fun _ => 0 := by decide

theorem scale_eq : k0_pay17 x0 x1 x2 x3 x4 x5 x6 x7 x8 = k0_pay10 x3 x4 x5 x1 x2 := by
  unfold k0_pay17
  rw [View.ld_unit_zero off2, View.ld_unit_zero off2, View.ld_unit_zero off1, View.ld_unit_zero off2, View.ld_unit_zero off1]
theorem dyf_eq : k0_pay18 x0 x1 x2 x3 x4 x5 x6 x7 x8 = k0_pay12 x6 x7 := by
  unfold k0_pay18
  rw [View.ld_unit_zero off2, View.ld_unit_zero off1]
theorem x_eq : k0_pay16 x0 x1 x2 x3 x4 x5 x6 x7 x8 = x0 := by
  unfold k0_pay16 k0_pay8
  rw [View.ld_unit_zero off2]
  exact shapeCast_self _ _

theorem out9_eq : out0_9 x0 x1 x2 x3 x4 x5 x6 x7 x8 = k0_pay3 (k0_pay10 x3 x4 x5 x1 x2) (k0_pay11 x3 x4 x1 x2) (k0_pay12 x6 x7) := by
  unfold out0_9
  rw [View.canon_unit_zero off2, scale_eq, dyf_eq, View.ld_unit_zero off2, View.ld_unit_zero off2, View.ld_unit_zero off2, View.ld_unit_zero off1]
theorem out10_eq : out0_10 x0 x1 x2 x3 x4 x5 x6 x7 x8 = k0_pay6 x0 x4 (k0_pay10 x3 x4 x5 x1 x2) (k0_pay12 x6 x7) := by
  unfold out0_10
  rw [View.canon_unit_zero off2, scale_eq, dyf_eq, x_eq, View.ld_unit_zero off2]
theorem out11_eq : out0_11 x0 x1 x2 x3 x4 x5 x6 x7 x8 = k0_pay7 x0 x3 (k0_pay10 x3 x4 x5 x1 x2) (k0_pay12 x6 x7) := by
  unfold out0_11
  rw [View.canon_unit_zero off2, scale_eq, dyf_eq, x_eq, View.ld_unit_zero off2]
theorem out12_eq : out0_12 x0 x1 x2 x3 x4 x5 x6 x7 x8 = k0_pay1 x5 (k0_pay13 x6 x7 x8) (k0_pay14 x5) k0_pay15 := by
  unfold out0_12
  rw [View.canon_unit_zero off2, View.ld_unit_zero off1, View.ld_unit_zero off2, View.ld_unit_zero off1, View.ld_unit_zero off2]
theorem out13_eq : out0_13 x0 x1 x2 x3 x4 x5 x6 x7 x8 = k0_pay4 x0 x3 := by
  unfold out0_13
  rw [View.canon_unit_zero off2, x_eq, View.ld_unit_zero off2]
theorem out14_eq : out0_14 x0 x1 x2 x3 x4 x5 x6 x7 x8 = k0_pay5 x4 (k0_pay10 x3 x4 x5 x1 x2) (k0_pay12 x6 x7) := by
  unfold out0_14
  rw [View.canon_unit_zero off2, scale_eq, dyf_eq, View.ld_unit_zero off2]

end Outs

/-! ## The six arrays after the run -/

/-- The gradient by the input. -/
theorem final9 : (dats m 0 c).arrAt 9 cfg0.N = (args m c).dx := by
  refine (dats m 0 c).arrAt_eq_of_covers 9 _ (by decide +kernel) fun t _ y => ?_
  blk_simp
  obtain ⟨p, i, rfl⟩ : ∃ (p : Fin 1536) (i : Fin 1536), y = ix2 p i := ⟨y 0, y 1, ValueIdx.eq_ix2 y⟩
  rw [after0_9, out9_eq]
  refine Eq.trans ?_ (congrArg (args m c).dx (emb9 t p i).symm)
  refine (dx_at _ _ _ _ _ _ _ p i).trans ?_
  rw [arrLayer_eq]
  rfl

/-- The gradient by the right factor. -/
theorem final10 : (dats m 0 c).arrAt 10 cfg0.N = (args m c).da := by
  refine (dats m 0 c).arrAt_eq_of_covers 10 _ (by decide +kernel) fun t _ y => ?_
  blk_simp
  obtain ⟨r, i, rfl⟩ : ∃ (r : Fin 64) (i : Fin 1536), y = ix2 r i := ⟨y 0, y 1, ValueIdx.eq_ix2 y⟩
  rw [after0_10, out10_eq]
  refine Eq.trans ?_ (congrArg (args m c).da (emb10 t r i).symm)
  refine (da_at _ _ _ _ _ _ _ _ r i).trans ?_
  rw [arrLayer_eq, input_eq]
  rfl

/-- The gradient by the left factor. -/
theorem final11 : (dats m 0 c).arrAt 11 cfg0.N = (args m c).db := by
  refine (dats m 0 c).arrAt_eq_of_covers 11 _ (by decide +kernel) fun t _ y => ?_
  blk_simp
  obtain ⟨o, r, rfl⟩ : ∃ (o : Fin 8960) (r : Fin 64), y = ix2 o r := ⟨y 0, y 1, ValueIdx.eq_ix2 y⟩
  rw [after0_11, out11_eq]
  refine Eq.trans ?_ (congrArg (args m c).db (emb11 t o r).symm)
  refine (db_at _ _ _ _ _ _ _ _ o r).trans ?_
  rw [arrLayer_eq, input_eq]
  rfl

/-- The gradient by the magnitudes. -/
theorem final12 : (dats m 0 c).arrAt 12 cfg0.N = (args m c).dm := by
  refine (dats m 0 c).arrAt_eq_of_covers 12 _ (by decide +kernel) fun t _ y => ?_
  blk_simp
  obtain ⟨z, o, rfl⟩ : ∃ (z : Fin 1) (o : Fin 8960), y = ix2 z o := ⟨y 0, y 1, ValueIdx.eq_ix2 y⟩
  rw [after0_12, out12_eq]
  refine Eq.trans ?_ (congrArg (args m c).dm (emb12 t z o).symm)
  refine (dm_at (iblk m c 1 t) (iblk m c 2 t) (iblk m c 3 t) (iblk m c 4 t) _ _ _ _ z o).trans ?_
  rw [arrLayer_eq, output_eq]
  rfl

/-- The input carried through the right factor. -/
theorem final13 : (dats m 0 c).arrAt 13 cfg0.N = (args m c).xa := by
  refine (dats m 0 c).arrAt_eq_of_covers 13 _ (by decide +kernel) fun t _ y => ?_
  blk_simp
  obtain ⟨p, r, rfl⟩ : ∃ (p : Fin 1536) (r : Fin 64), y = ix2 p r := ⟨y 0, y 1, ValueIdx.eq_ix2 y⟩
  rw [after0_13, out13_eq]
  refine Eq.trans ?_ (congrArg (args m c).xa (emb13 t p r).symm)
  refine (xa_at _ (iblk m c 1 t) (iblk m c 2 t) _ (iblk m c 4 t) (iblk m c 5 t) (iblk m c 6 t) (iblk m c 7 t) p r).trans ?_
  rw [arrLayer_eq, input_eq]
  rfl

/-- The gradient carried back through the left factor. -/
theorem final14 : (dats m 0 c).arrAt 14 cfg0.N = (args m c).gb := by
  refine (dats m 0 c).arrAt_eq_of_covers 14 _ (by decide +kernel) fun t _ y => ?_
  blk_simp
  obtain ⟨p, r, rfl⟩ : ∃ (p : Fin 1536) (r : Fin 64), y = ix2 p r := ⟨y 0, y 1, ValueIdx.eq_ix2 y⟩
  rw [after0_14, out14_eq]
  refine Eq.trans ?_ (congrArg (args m c).gb (emb14 t p r).symm)
  refine (gb_at _ _ _ _ _ _ _ p r).trans ?_
  rw [arrLayer_eq]
  rfl

/-- Every execution ends with the six results of the layer's backward pass, and with the arguments unchanged. -/
theorem run_values : θ_run (defs (F := Ideal)) (onTc (τ := τ) (main (F := Ideal))) ⟨m, fun _ => 0, ρ⟩ fun r => ∀ c : Dev nD,
      r.2.mem ((c.tc : Thread nD τ).loc main_v4_0) = (args m c).dx
      ∧ r.2.mem ((c.tc : Thread nD τ).loc main_v4_1) = (args m c).da
      ∧ r.2.mem ((c.tc : Thread nD τ).loc main_v4_2) = (args m c).db
      ∧ r.2.mem ((c.tc : Thread nD τ).loc main_v4_3) = (args m c).dm
      ∧ r.2.mem ((c.tc : Thread nD τ).loc main_v4_4) = (args m c).xa
      ∧ r.2.mem ((c.tc : Thread nD τ).loc main_v4_5) = (args m c).gb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    let ⟨h9, h10, h11, h12, h13, h14, kept⟩ := h c
    ⟨h9.trans (final9 m c), h10.trans (final10 m c), h11.trans (final11 m c), h12.trans (final12 m c),
      h13.trans (final13 m c), h14.trans (final14 m c), kept⟩)
    (Value.run_blocks m ρ)

end Cert.ReferenceIdeal.Own

end
-- ==== Proof.lean ====
/- The kernel and the plain formulas compute the same six arrays. Both are set against one description of the layer's
   backward pass (Proof/Spec, Proof/Data): Proof/Results says that the kernel's arrays hold it, Proof/RefResults that the
   reference's do. Proof/Run and Proof/KernelFrame show that the kernel runs, keeps its arguments and leaves every
   semaphore at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.Run
public import proofs.«01_k».proof.Proof.Results
public import proofs.«01_k».proof.Proof.RefResults

@[expose] public section

noncomputable section

namespace Cert.Proof

open Idealize.ShloMosaic Idealize.SL.Sem Cert.Dora

/-- Memories that agree on the arguments hold the same argument arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Own.args m' c = Cert.KernelIdeal.Own.args m c := by
  obtain ⟨h0, h1, h2, h3, h4, h5, h6, h7, h8⟩ := h
  unfold Cert.ReferenceIdeal.Own.args Cert.KernelIdeal.Own.args
  rw [Args.mk.injEq]
  exact ⟨h0, h1, h2, h3, h4, h5, h6, h7, h8⟩

/-- From memories that agree on the arguments, the kernel and the reference end with the same six results, the layer's
    backward pass, and with the arguments unchanged. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => (Cert.KernelIdeal.Own.args m c).dx, fun c => (Cert.KernelIdeal.Own.args m c).da,
    fun c => (Cert.KernelIdeal.Own.args m c).db, fun c => (Cert.KernelIdeal.Own.args m c).dm,
    fun c => (Cert.KernelIdeal.Own.args m c).xa, fun c => (Cert.KernelIdeal.Own.args m c).gb,
    Cert.KernelIdeal.Own.run_values m ρ,
    (θ_run _ _ _).mono (fun _ h c =>
      let e := args_eq m m' c (hag c)
      let ⟨h0, h1, h2, h3, h4, h5, kept⟩ := h c
      ⟨h0.trans (congrArg Args.dx e), h1.trans (congrArg Args.da e), h2.trans (congrArg Args.db e),
        h3.trans (congrArg Args.dm e), h4.trans (congrArg Args.xa e), h5.trans (congrArg Args.gb e), kept⟩)
      (Cert.ReferenceIdeal.Own.run_values m' ρ')⟩

/-- The five claims: the kernel, its idealization and the reference run to the end and keep their arguments; the
    idealization is the kernel's own text; and the kernel's results are the reference's. -/
theorem claim : Cert.Claim :=
  ⟨Cert.Kernel.Gen.facts, Cert.KernelIdeal.Gen.facts, Cert.ReferenceIdeal.Gen.facts,
    fun m ρ _ => Cert.Kernel.Own.frame m ρ, fun m ρ _ => Cert.KernelIdeal.Own.frame m ρ,
    fun m ρ _ => Cert.ReferenceIdeal.Gen.frame m ρ, trivial, algebraic⟩

end Cert.Proof

end
